-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![32, 128, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![32, 128, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S32x128x128x64 : Shape := ⟨4, ![32, 128, 128, 64]⟩
abbrev S4096x512 : Shape := ⟨2, ![4096, 512]⟩
abbrev S256x512 : Shape := ⟨2, ![256, 512]⟩
abbrev S15x256x512 : Shape := ⟨3, ![15, 256, 512]⟩
abbrev S2x128x8x64 : Shape := ⟨4, ![2, 128, 8, 64]⟩
abbrev S_ : Shape := ⟨0, ![]⟩
abbrev S15 : Shape := ⟨1, ![15]⟩
abbrev S1 : Shape := ⟨1, ![1]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S1x256x512 : Shape := ⟨3, ![1, 256, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S32x128x128x64, .f32⟩
  | .hbm, ⟨4, _⟩ => ⟨S32x128x128x64, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x512, .f32⟩
  | .local _ .vmem, ⟨4, _⟩ => ⟨S4096x512, .f32⟩
  | .local _ .vmem, ⟨5, _⟩ => ⟨S4096x512, .f32⟩
  | .local _ .vmem, ⟨6, _⟩ => ⟨S256x512, .f32⟩
  | .local _ .vmem, ⟨7, _⟩ => ⟨S256x512, .f32⟩
  | .local _ .vmem, ⟨8, _⟩ => ⟨S15x256x512, .f32⟩
  | .local _ .vmem, ⟨9, _⟩ => ⟨S2x128x8x64, .f32⟩
  | .local _ .vmem, ⟨10, _⟩ => ⟨S2x128x8x64, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 2 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v16 : BitVec 32 := Scalar.muli v2 c256_i32
  let v17 : Index := Scalar.indexCast v16
  let c0_12 : Index := 0#32
  ![v17.toNat, 0]
def k0_off2 (d0 : Dev nD) (c0_i32_13 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v21 : BitVec 32 := Scalar.subi v2 c0_i32_13
  let c32_i32 : BitVec 32 := 32#32
  let v22 : BitVec 32 := Scalar.addi v21 c32_i32
  let c16_i32_14 : BitVec 32 := 16#32
  let v23 : BitVec 32 := Scalar.remsi v22 c16_i32_14
  let c256_i32_16 : BitVec 32 := 256#32
  let v25 : BitVec 32 := Scalar.muli v23 c256_i32_16
  let c0_i32_20 : BitVec 32 := 0#32
  ![v25.toNat, 0]
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_18 : BitVec 32 := 1#32
  let v26 : BitVec 32 := Scalar.muli v7 c1_i32_18
  let v27 : BitVec 32 := Scalar.addi c0_i32_19 v26
  v27.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_37 : BitVec 32 := 1#32
  let v45 : BitVec 32 := Scalar.muli v7 c1_i32_37
  let v46 : BitVec 32 := Scalar.addi c0_i32_38 v45
  v46.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_56 : BitVec 32 := 1#32
  let v64 : BitVec 32 := Scalar.muli v7 c1_i32_56
  let v65 : BitVec 32 := Scalar.addi c0_i32_57 v64
  v65.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_74 : BitVec 32 := 1#32
  let v83 : BitVec 32 := Scalar.muli v7 c1_i32_74
  let v84 : BitVec 32 := Scalar.addi c0_i32_75 v83
  v84.toNat
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_92 : BitVec 32 := 1#32
  let v102 : BitVec 32 := Scalar.muli v7 c1_i32_92
  let v103 : BitVec 32 := Scalar.addi c0_i32_93 v102
  v103.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_110 : BitVec 32 := 1#32
  let v121 : BitVec 32 := Scalar.muli v7 c1_i32_110
  let v122 : BitVec 32 := Scalar.addi c0_i32_111 v121
  v122.toNat
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_128 : BitVec 32 := 1#32
  let v140 : BitVec 32 := Scalar.muli v7 c1_i32_128
  let v141 : BitVec 32 := Scalar.addi c0_i32_129 v140
  v141.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_146 : BitVec 32 := 1#32
  let v159 : BitVec 32 := Scalar.muli v7 c1_i32_146
  let v160 : BitVec 32 := Scalar.addi c0_i32_147 v159
  v160.toNat
def k0_dev11 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_164 : BitVec 32 := 1#32
  let v178 : BitVec 32 := Scalar.muli v7 c1_i32_164
  let v179 : BitVec 32 := Scalar.addi c0_i32_165 v178
  v179.toNat
def k0_dev12 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_182 : BitVec 32 := 1#32
  let v197 : BitVec 32 := Scalar.muli v7 c1_i32_182
  let v198 : BitVec 32 := Scalar.addi c0_i32_183 v197
  v198.toNat
def k0_dev13 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_200 : BitVec 32 := 1#32
  let v216 : BitVec 32 := Scalar.muli v7 c1_i32_200
  let v217 : BitVec 32 := Scalar.addi c0_i32_201 v216
  v217.toNat
def k0_dev14 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_218 : BitVec 32 := 1#32
  let v235 : BitVec 32 := Scalar.muli v7 c1_i32_218
  let v236 : BitVec 32 := Scalar.addi c0_i32_219 v235
  v236.toNat
def k0_dev15 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_236 : BitVec 32 := 1#32
  let v254 : BitVec 32 := Scalar.muli v7 c1_i32_236
  let v255 : BitVec 32 := Scalar.addi c0_i32_237 v254
  v255.toNat
def k0_dev16 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_254 : BitVec 32 := 1#32
  let v273 : BitVec 32 := Scalar.muli v7 c1_i32_254
  let v274 : BitVec 32 := Scalar.addi c0_i32_255 v273
  v274.toNat
def k0_dev17 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_272 : BitVec 32 := 1#32
  let v292 : BitVec 32 := Scalar.muli v7 c1_i32_272
  let v293 : BitVec 32 := Scalar.addi c0_i32_273 v292
  v293.toNat
@[reducible] def k0_t1_loop : Scf.Loop 32 :=
  let c0_i32_286 : BitVec 32 := 0#32
  let c16_i32_287 : BitVec 32 := 16#32
  let v307 : BitVec 32 := Scalar.addi c0_i32_286 c16_i32_287
  let c1_i32_288 : BitVec 32 := 1#32
  ⟨c0_i32_286, v307, c1_i32_288⟩
def k0_off3 (d0 : Dev nD) (k0_t1 : Fin k0_t1_loop.trips) : Fin 4 → Nat :=
  let c0_i32_286 : BitVec 32 := 0#32
  let c1_i32_288 : BitVec 32 := 1#32
  let arg19 : BitVec 32 := Scf.iv c0_i32_286 c1_i32_288 k0_t1
  let c2_i32_719 : BitVec 32 := 2#32
  let v736 : BitVec 32 := Scalar.muli arg19 c2_i32_719
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_285 : BitVec 32 := 8#32
  let v306 : BitVec 32 := Scalar.muli v2 c8_i32_285
  let c0_i32_722 : BitVec 32 := 0#32
  ![v736.toNat, 0, v306.toNat, 0]
def k0_off4 (k0_t1 : Fin k0_t1_loop.trips) : Fin 2 → Nat :=
  let c0_i32_286 : BitVec 32 := 0#32
  let c1_i32_288 : BitVec 32 := 1#32
  let arg19 : BitVec 32 := Scf.iv c0_i32_286 c1_i32_288 k0_t1
  let c256_i32_729 : BitVec 32 := 256#32
  let v742 : BitVec 32 := Scalar.muli arg19 c256_i32_729
  let v743 : Index := Scalar.indexCast v742
  let c0_730 : Index := 0#32
  ![v743.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_290 : BitVec 32 := 16#32
  let v308 : BitVec 32 := Scalar.addi v2 c16_i32_290
  let c1_i32_291 : BitVec 32 := 1#32
  let v309 : BitVec 32 := Scalar.subi v308 c1_i32_291
  let c16_i32_292 : BitVec 32 := 16#32
  let v310 : BitVec 32 := Scalar.remsi v309 c16_i32_292
  let c256_i32_293 : BitVec 32 := 256#32
  let v311 : BitVec 32 := Scalar.muli v310 c256_i32_293
  let v312 : Index := Scalar.indexCast v311
  let c0_294 : Index := 0#32
  ![v312.toNat, 0]
def k0_dev18 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_299 : BitVec 32 := 1#32
  let v317 : BitVec 32 := Scalar.muli v7 c1_i32_299
  let v318 : BitVec 32 := Scalar.addi c0_i32_300 v317
  v318.toNat
def k0_off6 (d0 : Dev nD) (c0_i32_316 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_314 : BitVec 32 := 16#32
  let v331 : BitVec 32 := Scalar.addi v2 c16_i32_314
  let c2_i32_315 : BitVec 32 := 2#32
  let v332 : BitVec 32 := Scalar.subi v331 c2_i32_315
  let v333 : BitVec 32 := Scalar.subi v332 c0_i32_316
  let c32_i32_317 : BitVec 32 := 32#32
  let v334 : BitVec 32 := Scalar.addi v333 c32_i32_317
  let c16_i32_318 : BitVec 32 := 16#32
  let v335 : BitVec 32 := Scalar.remsi v334 c16_i32_318
  let c256_i32_322 : BitVec 32 := 256#32
  let v338 : BitVec 32 := Scalar.muli v335 c256_i32_322
  let v339 : Index := Scalar.indexCast v338
  let c0_323 : Index := 0#32
  ![v339.toNat, 0]
def k0_dev19 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_328 : BitVec 32 := 1#32
  let v345 : BitVec 32 := Scalar.muli v7 c1_i32_328
  let v346 : BitVec 32 := Scalar.addi c0_i32_329 v345
  v346.toNat
def k0_dev20 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_356 : BitVec 32 := 1#32
  let v373 : BitVec 32 := Scalar.muli v7 c1_i32_356
  let v374 : BitVec 32 := Scalar.addi c0_i32_357 v373
  v374.toNat
def k0_dev21 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_384 : BitVec 32 := 1#32
  let v401 : BitVec 32 := Scalar.muli v7 c1_i32_384
  let v402 : BitVec 32 := Scalar.addi c0_i32_385 v401
  v402.toNat
def k0_dev22 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_412 : BitVec 32 := 1#32
  let v429 : BitVec 32 := Scalar.muli v7 c1_i32_412
  let v430 : BitVec 32 := Scalar.addi c0_i32_413 v429
  v430.toNat
def k0_dev23 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_440 : BitVec 32 := 1#32
  let v457 : BitVec 32 := Scalar.muli v7 c1_i32_440
  let v458 : BitVec 32 := Scalar.addi c0_i32_441 v457
  v458.toNat
def k0_dev24 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_468 : BitVec 32 := 1#32
  let v485 : BitVec 32 := Scalar.muli v7 c1_i32_468
  let v486 : BitVec 32 := Scalar.addi c0_i32_469 v485
  v486.toNat
def k0_dev25 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_496 : BitVec 32 := 1#32
  let v513 : BitVec 32 := Scalar.muli v7 c1_i32_496
  let v514 : BitVec 32 := Scalar.addi c0_i32_497 v513
  v514.toNat
def k0_dev26 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_524 : BitVec 32 := 1#32
  let v541 : BitVec 32 := Scalar.muli v7 c1_i32_524
  let v542 : BitVec 32 := Scalar.addi c0_i32_525 v541
  v542.toNat
def k0_dev27 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_552 : BitVec 32 := 1#32
  let v569 : BitVec 32 := Scalar.muli v7 c1_i32_552
  let v570 : BitVec 32 := Scalar.addi c0_i32_553 v569
  v570.toNat
def k0_dev28 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_580 : BitVec 32 := 1#32
  let v597 : BitVec 32 := Scalar.muli v7 c1_i32_580
  let v598 : BitVec 32 := Scalar.addi c0_i32_581 v597
  v598.toNat
def k0_dev29 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_608 : BitVec 32 := 1#32
  let v625 : BitVec 32 := Scalar.muli v7 c1_i32_608
  let v626 : BitVec 32 := Scalar.addi c0_i32_609 v625
  v626.toNat
def k0_dev30 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_636 : BitVec 32 := 1#32
  let v653 : BitVec 32 := Scalar.muli v7 c1_i32_636
  let v654 : BitVec 32 := Scalar.addi c0_i32_637 v653
  v654.toNat
def k0_dev31 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_664 : BitVec 32 := 1#32
  let v681 : BitVec 32 := Scalar.muli v7 c1_i32_664
  let v682 : BitVec 32 := Scalar.addi c0_i32_665 v681
  v682.toNat
def k0_dev32 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_692 : BitVec 32 := 1#32
  let v709 : BitVec 32 := Scalar.muli v7 c1_i32_692
  let v710 : BitVec 32 := Scalar.addi c0_i32_693 v709
  v710.toNat
def k0_dev33 (d0 : Dev nD) : Nat :=
  let c0_i32_721_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_720_r0 : BitVec 32 := 1#32
  let v737_r0 : BitVec 32 := Scalar.muli v5 c1_i32_720_r0
  let v738_r0 : BitVec 32 := Scalar.addi c0_i32_721_r0 v737_r0
  v738_r0.toNat
def k0_dev34 (d0 : Dev nD) : Nat :=
  let c0_i32_724_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_723_r0 : BitVec 32 := 1#32
  let v739_r0 : BitVec 32 := Scalar.muli v7 c1_i32_723_r0
  let v740_r0 : BitVec 32 := Scalar.addi c0_i32_724_r0 v739_r0
  v740_r0.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32x128x512 : Shape := ⟨3, ![32, 128, 512]⟩
abbrev S512x8192 : Shape := ⟨2, ![512, 8192]⟩
abbrev S8192x512 : Shape := ⟨2, ![8192, 512]⟩
abbrev S32x128x128x64 : Shape := ⟨4, ![32, 128, 128, 64]⟩
abbrev S32x128x8192 : Shape := ⟨3, ![32, 128, 8192]⟩
abbrev S_ : Shape := ⟨0, ![]⟩
abbrev S32x128x128x1 : Shape := ⟨4, ![32, 128, 128, 1]⟩
abbrev S32x128x128x128 : Shape := ⟨4, ![32, 128, 128, 128]⟩
abbrev S32x128x128 : Shape := ⟨3, ![32, 128, 128]⟩
abbrev S32x128x64x128 : Shape := ⟨4, ![32, 128, 64, 128]⟩

abbrev nBuf : Space → Nat
  | .hbm => 42
  | .vmem => 0
  | .smem => 0
  | _ => 0

abbrev bufTy : (tb : Table) → Fin (tcTables nBuf tb) → BufTy
  | .hbm, ⟨0, _⟩ => ⟨S32x128x512, .f32⟩
  | .hbm, ⟨1, _⟩ => ⟨S512x8192, .f32⟩
  | .hbm, ⟨2, _⟩ => ⟨S8192x512, .f32⟩
  | .hbm, ⟨3, _⟩ => ⟨S32x128x128x64, .f32⟩
  | .hbm, ⟨4, _⟩ => ⟨S32x128x128x64, .f32⟩
  | .hbm, ⟨5, _⟩ => ⟨S32x128x8192, .f32⟩
  | .hbm, ⟨6, _⟩ => ⟨S32x128x128x64, .f32⟩
  | .hbm, ⟨7, _⟩ => ⟨S_, .f32⟩
  | .hbm, ⟨8, _⟩ => ⟨S32x128x128x64, .f32⟩
  | .hbm, ⟨9, _⟩ => ⟨S_, .f32⟩
  | .hbm, ⟨10, _⟩ => ⟨S32x128x128x1, .f32⟩
  | .hbm, ⟨11, _⟩ => ⟨S_, .f32⟩
  | .hbm, ⟨12, _⟩ => ⟨S32x128x128x1, .f32⟩
  | .hbm, ⟨13, _⟩ => ⟨S32x128x128x128, .f32⟩
  | .hbm, ⟨14, _⟩ => ⟨S_, .f32⟩
  | .hbm, ⟨15, _⟩ => ⟨S32x128x128x128, .f32⟩
  | .hbm, ⟨16, _⟩ => ⟨S32x128x128x128, .f32⟩
  | .hbm, ⟨17, _⟩ => ⟨S_, .f32⟩
  | .hbm, ⟨18, _⟩ => ⟨S32x128x128, .f32⟩
  | .hbm, ⟨19, _⟩ => ⟨S32x128x128x1, .f32⟩
  | .hbm, ⟨20, _⟩ => ⟨S32x128x128x1, .f32⟩
  | .hbm, ⟨21, _⟩ => ⟨S32x128x128x1, .f32⟩
  | .hbm, ⟨22, _⟩ => ⟨S32x128x128x1, .f32⟩
  | .hbm, ⟨23, _⟩ => ⟨S32x128x128x128, .f32⟩
  | .hbm, ⟨24, _⟩ => ⟨S32x128x128x128, .f32⟩
  | .hbm, ⟨25, _⟩ => ⟨S32x128x128x128, .f32⟩
  | .hbm, ⟨26, _⟩ => ⟨S32x128x128x1, .f32⟩
  | .hbm, ⟨27, _⟩ => ⟨S_, .f32⟩
  | .hbm, ⟨28, _⟩ => ⟨S32x128x128, .f32⟩
  | .hbm, ⟨29, _⟩ => ⟨S32x128x128x1, .f32⟩
  | .hbm, ⟨30, _⟩ => ⟨S32x128x128x1, .f32⟩
  | .hbm, ⟨31, _⟩ => ⟨S32x128x128x1, .f32⟩
  | .hbm, ⟨32, _⟩ => ⟨S32x128x128x64, .f32⟩
  | .hbm, ⟨33, _⟩ => ⟨S32x128x128x64, .f32⟩
  | .hbm, ⟨34, _⟩ => ⟨S32x128x64x128, .f32⟩
  | .hbm, ⟨35, _⟩ => ⟨S32x128x128x64, .f32⟩
  | .hbm, ⟨36, _⟩ => ⟨S32x128x128x64, .f32⟩
  | .hbm, ⟨37, _⟩ => ⟨S32x128x128x1, .f32⟩
  | .hbm, ⟨38, _⟩ => ⟨S32x128x128x64, .f32⟩
  | .hbm, ⟨39, _⟩ => ⟨S32x128x128x64, .f32⟩
  | .hbm, ⟨40, _⟩ => ⟨S32x128x8192, .f32⟩
  | .hbm, ⟨41, _⟩ => ⟨S32x128x512, .f32⟩
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Common.lean ====
/-
The all-gather / attention / reduce-scatter kernel on a ring of sixteen devices: the cells its devices share, what each
cell hands over at each round, what a device owes at launch, and the levels that order the waits.

Device `c` sends to `nxt c` only and is sent to by `prv c` only. Hop `h` of the all-gather carries the block of rows that
started on device `c - h`; hop `h` of the reduce-scatter carries the running sum `A c h`.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring
public import Idealize.ShloMosaic.Lib.Pointwise.Index

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the ring's rounds, counters for the loop's own copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F)).LandsIn upEmb := by unfold ER; infer_instance

/-! ## The ring -/

/-- The device `k` places before `c`. -/
def bk (c : Dev nD) (k : ℕ) : Dev nD := ⟨(c.val + 32 - k) % 16, Nat.mod_lt _ (by decide)⟩
def nxt (c : Dev nD) : Dev nD := ⟨(c.val + 1) % 16, Nat.mod_lt _ (by decide)⟩
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide
theorem bk_zero (c : Dev nD) : bk c 0 = c := by revert c; decide
theorem bk_nxt (c : Dev nD) (k : ℕ) (hk : k < 16) : bk (nxt c) (k + 1) = bk c k := by
  have : c.val < 16 := c.isLt; refine Fin.ext ?_; simp only [bk, nxt]; omega
theorem bk_prv (c : Dev nD) (k : ℕ) (hk : k < 16) : bk (prv c) k = bk c (k + 1) := by
  rw [← bk_nxt (prv c) k hk, nxt_prv]

def ring : Dev nD ≃ Dev nD := ⟨nxt, prv, prv_nxt, nxt_prv⟩

/-! ## Buffers and views -/

abbrev xM : Memref sig .tc .vmem S4096x512 .f32 := Memref.whole cc0_scratch0
abbrev pM : Memref sig .tc .vmem S4096x512 .f32 := Memref.whole cc0_scratch1
abbrev oM : Memref sig .tc .vmem S256x512 .f32 := Memref.whole cc0_scratch2
abbrev aM : Memref sig .tc .vmem S256x512 .f32 := Memref.whole cc0_scratch3
abbrev rM : Memref sig .tc .vmem S15x256x512 .f32 := Memref.whole cc0_scratch4

/-- A block of 256 rows of the gathered array, at any in-bounds offset. -/
abbrev xAt (off : Fin 2 → ℕ) (h : ∀ a, off a + S256x512.size a ≤ S4096x512.size a) : Memref sig .tc .vmem S256x512 .f32 :=
  xM.slice (Rect.unit (s := S4096x512) off S256x512.size h) (fun _ => rfl)

/-- The rows hop `h` of the all-gather moves out of device `c`. -/
abbrev xV (c : Dev nD) (h : Fin 15) : Memref sig .tc .vmem S256x512 .f32 :=
  xAt (k0_off2 c (BitVec.ofNat 32 h.val)) (k0_off2_inb c h)

theorem chunk_inb (k : Dev nD) : ∀ a, (![256 * k.val, 0] : Fin 2 → ℕ) a + S256x512.size a ≤ S4096x512.size a := by
  have : k.val < 16 := k.isLt
  intro a; fin_cases a
  · show 256 * k.val + 256 ≤ 4096; omega
  · show 0 + 512 ≤ 512; omega

/-- Block `k` of the gathered array. -/
abbrev xC (k : Dev nD) : Memref sig .tc .vmem S256x512 .f32 := xAt ![256 * k.val, 0] (chunk_inb k)

theorem slot_inb (h : Fin 15) : ∀ a, (![h.val, 0, 0] : Fin 3 → ℕ) a + S1x256x512.size a ≤ S15x256x512.size a := by
  have : h.val < 15 := h.isLt
  intro a; fin_cases a
  · show h.val + 1 ≤ 15; omega
  · show 0 + 256 ≤ 256; omega
  · show 0 + 512 ≤ 512; omega

/-- Slot `h` of the reduce-scatter's receive buffer, -/
abbrev rRect (h : Fin 15) : Rect S15x256x512 := Rect.unit (s := S15x256x512) ![h.val, 0, 0] S1x256x512.size (slot_inb h)
/-- seen as a block of 256 rows. -/
abbrev rV (h : Fin 15) : Memref sig .tc .vmem S256x512 .f32 :=
  (rM.slice (rRect h) (fun _ => rfl)).squeeze S256x512 squeezes_S1x256x512_S256x512

theorem sem_inb (h : Fin 15) : ∀ a, (![h.val] : Fin 1 → ℕ) a + S1.size a ≤ S15.size a := by
  have : h.val < 15 := h.isLt
  intro a; fin_cases a
  show h.val + 1 ≤ 15; omega

/-! ## Cells -/

abbrev agQ (h : Fin 15) : DmaSem sig := ((cc0_scratch9.slice (Rect.unit (s := S15) ![h.val] S1.size (sem_inb h))).squeeze S_ squeezes_S1_S_).sem
abbrev rsQ (h : Fin 15) : DmaSem sig := ((cc0_scratch10.slice (Rect.unit (s := S15) ![h.val] S1.size (sem_inb h))).squeeze S_ squeezes_S1_S_).sem
abbrev barS : Sem sig := (SemArray.scalar (sig.barrier 0 rfl) : Sems sig S_).sem

theorem agQ_val (h : Fin 15) : (agQ h).val = 6 + h.val := by fin_cases h <;> rfl
theorem rsQ_val (h : Fin 15) : (rsQ h).val = 21 + h.val := by fin_cases h <;> rfl

/-- The kinds of cell a device has: the entry barrier, the exit barrier, the two send semaphores; a receive semaphore per
    hop of the all-gather and per hop of the reduce-scatter. -/
abbrev CK : Type := Fin 4 ⊕ (Fin 15 ⊕ Fin 15)

abbrev kBar : CK := .inl 0
abbrev kBar2 : CK := .inl 1
abbrev kAgS : CK := .inl 2
abbrev kRsS : CK := .inl 3
abbrev kAgR (h : Fin 15) : CK := .inr (.inl h)
abbrev kRsR (h : Fin 15) : CK := .inr (.inr h)

def csem : CK → SemLoc sig
  | .inl 0 => .reg barS
  | .inl 1 => .reg cc0_scoped0.sem
  | .inl 2 => .dma cc0_scratch7.sem
  | .inl 3 => .dma cc0_scratch8.sem
  | .inr (.inl h) => .dma (agQ h)
  | .inr (.inr h) => .dma (rsQ h)

/-- A number naming each cell kind. -/
def cnum : SemLoc sig → ℕ
  | .reg s => s.val
  | .dma q => 2 + q.val
def knum : CK → ℕ
  | .inl 0 => 0
  | .inl 1 => 1
  | .inl 2 => 6
  | .inl 3 => 7
  | .inr (.inl h) => 8 + h.val
  | .inr (.inr h) => 23 + h.val

theorem cnum_csem (k : CK) : cnum (csem k) = knum k := by
  rcases k with k | k | k
  · fin_cases k <;> rfl
  · show 2 + (agQ k).val = 8 + k.val; rw [agQ_val]; omega
  · show 2 + (rsQ k).val = 23 + k.val; rw [rsQ_val]; omega

theorem knum_inj : Function.Injective knum := by decide

theorem csem_inj : Function.Injective csem := fun a b h => knum_inj (by rw [← cnum_csem, ← cnum_csem, h])

/-- Which of the ring's cells a semaphore is, if any. -/
def role (sm : SemLoc sig) : Option CK := Function.partialInv csem sm
theorem role_csem (k : CK) : role (csem k) = some k := Function.partialInv_left csem_inj k
theorem role_none {sm : SemLoc sig} (h : ∀ k, csem k ≠ sm) : role sm = none := by
  cases hr : role sm with
  | none => rfl
  | some k => exact absurd ((Function.partialInv_of_injective csem_inj k sm).mp hr) (h k)

abbrev cell (c : Dev nD) (k : CK) : GSem nD τ sig := ((c : Thread nD τ), csem k)

theorem cell_inj {c c' : Dev nD} {k k' : CK} (h : cell c k = cell c' k') : c = c' ∧ k = k' :=
  ⟨congrArg (fun g : GSem nD τ sig => g.1.1) h, csem_inj (congrArg Prod.snd h)⟩

/-! ## Credits -/

abbrev NA : ℕ := (xC 0).view.dmaCredit
abbrev NR : ℕ := (rV 0).view.dmaCredit
theorem NA_pos : 0 < NA := View.dmaCredit_pos _ (by decide)
theorem NR_pos : 0 < NR := View.dmaCredit_pos _ (by decide)
theorem NR_acc : (aM : Memref sig .tc .vmem S256x512 .f32).view.dmaCredit = NR := rfl

/-! ## Arrays of sixteen blocks of rows -/

/-- The array whose block `k` is `g k`. -/
def blocks (g : Dev nD → Vec F S256x512 .f32) : Vec F S4096x512 .f32 := fun i =>
  g ⟨(i 0).val / 256, by have : (i 0).val < 4096 := (i 0).isLt; show _ < 16; omega⟩
    (ix2 ⟨(i 0).val % 256, Nat.mod_lt _ (by decide)⟩ (i 1))

theorem blocks_apply (g : Dev nD → Vec F S256x512 .f32) (k : Dev nD) (x : S256x512.Idx) (i : S4096x512.Idx)
    (h0 : (i 0).val = 256 * k.val + (x 0).val) (h1 : (i 1).val = (x 1).val) : blocks g i = g k x := by
  have hx : (x 0).val < 256 := (x 0).isLt
  have hk : (⟨(i 0).val / 256, by have : (i 0).val < 4096 := (i 0).isLt; show _ < 16; omega⟩ : Dev nD) = k :=
    Fin.ext (by show (i 0).val / 256 = k.val; omega)
  have h0' : (⟨(i 0).val % 256, Nat.mod_lt _ (by decide)⟩ : Fin 256) = x 0 := Fin.ext (by show (i 0).val % 256 = (x 0).val; omega)
  have h1' : (i 1 : Fin 512) = x 1 := Fin.ext h1
  unfold blocks
  rw [hk, h0', h1']
  exact congrArg (g k) (ix2_eta x)

theorem emb_xAt (off : Fin 2 → ℕ) (h) (x : S256x512.Idx) (a : Fin 2) :
    (((xAt off h).view.emb x : S4096x512.Idx) a).val = off a + (x a).val := by
  show off a + 1 * (x a).val = _
  rw [Nat.one_mul]

theorem read_blocks (g : Dev nD → Vec F S256x512 .f32) (k : Dev nD) (off : Fin 2 → ℕ) (h) (ho : off = ![256 * k.val, 0]) :
    (xAt off h).view.read (Elt F) (blocks g) = g k := by
  subst ho
  funext x
  exact blocks_apply g k x _ (emb_xAt _ _ x 0) ((emb_xAt _ _ x 1).trans (Nat.zero_add _))

/-- Writing block `k` of the array where it belongs leaves the block's elements at the array's. -/
theorem write_blocks (g : Dev nD → Vec F S256x512 .f32) (k : Dev nD) (off : Fin 2 → ℕ) (h) (ho : off = ![256 * k.val, 0])
    (f : Vec F S4096x512 .f32) : ∀ i ∈ (xAt off h).view.set, (xAt off h).view.write (Elt F) f (g k) Finset.univ i = blocks g i := by
  intro i hi
  rw [← read_blocks g k off h ho, View.write_read_eq_piecewise]
  exact Finset.piecewise_eq_of_mem _ _ _ hi

/-- The elements of block `k`. -/
def xset (k : Dev nD) : Finset S4096x512.Idx := (xC k).view.set

theorem set_xAt (k : Dev nD) (off : Fin 2 → ℕ) (h) (ho : off = ![256 * k.val, 0]) : (xAt off h).view.set = xset k := by
  subst ho; rfl

theorem mem_xset (k : Dev nD) (i : S4096x512.Idx) : i ∈ xset k ↔ (i 0).val / 256 = k.val := by
  have h1 : (i 1).val < 512 := (i 1).isLt
  show i ∈ ((View.whole cc0_scratch0).slice (Rect.unit (s := S4096x512) ![256 * k.val, 0] S256x512.size (chunk_inb k))).set ↔ _
  rw [View.set_slice_whole]
  refine Rect.mem_set_unit.trans ⟨fun h => ?_, fun h a => ?_⟩
  · have := h 0
    change 256 * k.val ≤ (i 0).val ∧ (i 0).val < 256 * k.val + 256 at this
    omega
  · fin_cases a
    · show 256 * k.val ≤ (i 0).val ∧ (i 0).val < 256 * k.val + 256; omega
    · show 0 ≤ (i 1).val ∧ (i 1).val < 0 + 512; omega

theorem xset_disj : ∀ b b' : Dev nD, b ≠ b' → Disjoint (xset b) (xset b') := fun b b' hb =>
  Finset.disjoint_left.mpr fun i h h' => hb (Fin.ext (((mem_xset b i).mp h).symm.trans ((mem_xset b' i).mp h')))

theorem xset_cover : (Finset.univ : Finset (Dev nD)).biUnion xset = Finset.univ :=
  Finset.eq_univ_iff_forall.mpr fun i => Finset.mem_biUnion.mpr
    ⟨⟨(i 0).val / 256, by have : (i 0).val < 4096 := (i 0).isLt; show _ < 16; omega⟩, Finset.mem_univ _, (mem_xset _ i).mpr rfl⟩

def rset (h : Fin 15) : Finset S15x256x512.Idx := (rV h).view.set

theorem mem_rset (h : Fin 15) (i : S15x256x512.Idx) : i ∈ rset h ↔ (i 0).val = h.val := by
  have h1 : (i 1).val < 256 := (i 1).isLt
  have h2 : (i 2).val < 512 := (i 2).isLt
  show i ∈ (((View.whole cc0_scratch4).slice (rRect h)).reshape S256x512 squeezes_S1x256x512_S256x512.numel_eq).set ↔ _
  rw [View.set_reshape, View.set_slice_whole]
  refine Rect.mem_set_unit.trans ⟨fun hh => ?_, fun hh a => ?_⟩
  · have := hh 0
    change h.val ≤ (i 0).val ∧ (i 0).val < h.val + 1 at this
    omega
  · fin_cases a
    · show h.val ≤ (i 0).val ∧ (i 0).val < h.val + 1; omega
    · show 0 ≤ (i 1).val ∧ (i 1).val < 0 + 256; omega
    · show 0 ≤ (i 2).val ∧ (i 2).val < 0 + 512; omega

theorem rset_disj : ∀ b b' : Fin 15, b ≠ b' → Disjoint (rset b) (rset b') := fun b b' hb =>
  Finset.disjoint_left.mpr fun i h h' => hb (Fin.ext (((mem_rset b i).mp h).symm.trans ((mem_rset b' i).mp h')))

theorem rset_cover : (Finset.univ : Finset (Fin 15)).biUnion rset = Finset.univ :=
  Finset.eq_univ_iff_forall.mpr fun i => Finset.mem_biUnion.mpr
    ⟨⟨(i 0).val, (i 0).isLt⟩, Finset.mem_univ _, (mem_rset _ i).mpr rfl⟩

/-- A slot read through the rows view is the slot loaded whole, its leading unit axis dropped. -/
theorem read_rV (h : Fin 15) (f : Vec F S15x256x512 .f32) :
    shapeCast S256x512 (rM.view.readAt (Elt F) (rRect h).toLoadRect f) shapeCasts_S1x256x512_S256x512 = (rV h).view.read (Elt F) f := rfl

/-! ## What each place holds -/

section Contents

-- `X`: the rows each device starts with; `T`: what each device's loop leaves in each block of its product array
variable (X : Dev nD → Vec F S256x512 .f32) (T : Dev nD → Dev nD → Vec F S256x512 .f32)

/-- The sum of a received block and a block of the product array, as the kernel stores it. -/
def addV (u w : Vec F S256x512 .f32) : Vec F S256x512 .f32 := shapeCast S256x512 (addf u w : FVec F S256x512 .f32) shapeCasts_S256x512_S256x512

/-- What device `c` sends at hop `h` of the reduce-scatter. -/
def A : ℕ → Dev nD → Vec F S256x512 .f32
  | 0, c => k0_pay41 (T c (bk c 1))
  | h + 1, c => addV (A h (prv c)) (T c (bk c (h + 2)))

theorem pay42_eq (v : Vec F S1x256x512 .f32) (w : Vec F S256x512 .f32) :
    k0_pay42 v w = addV (shapeCast S256x512 v shapeCasts_S1x256x512_S256x512) w := rfl

def xPts (c k : Dev nD) (f : Vec F S4096x512 .f32) : sProp 𝕄 := ((c : Thread nD τ).loc cc0_scratch0) ↦[xset k]{fullShare} f
def rPts (c : Dev nD) (h : Fin 15) (f : Vec F S15x256x512 .f32) : sProp 𝕄 := ((c : Thread nD τ).loc cc0_scratch4) ↦[rset h]{fullShare} f
def aPts (c : Dev nD) (f : Vec F S256x512 .f32) : sProp 𝕄 := ((c : Thread nD τ).loc cc0_scratch3) ↦{fullShare} f

instance xPts_storable (c k : Dev nD) (f) : BI.Storable (upEmb : UEmb _ 𝕄) (xPts (F := F) c k f) := by unfold xPts; infer_instance
instance rPts_storable (c : Dev nD) (h : Fin 15) (f) : BI.Storable (upEmb : UEmb _ 𝕄) (rPts (F := F) c h f) := by unfold rPts; infer_instance
instance aPts_storable (c : Dev nD) (f) : BI.Storable (upEmb : UEmb _ 𝕄) (aPts (F := F) c f) := by unfold aPts; infer_instance

/-! ## The schedule -/

/-- What the device after `c` hands it at the entry barrier: its blocks for all fifteen hops, and its fifteen slots. -/
def barPay (c : Dev nD) : sProp 𝕄 :=
  iprop((bigSep Finset.univ fun h : Fin 15 => iprop(∃ f, xPts (nxt c) (bk c h.val) f))
    ∗ bigSep Finset.univ fun h : Fin 15 => iprop(∃ f, rPts (nxt c) h f))
/-- Slot `h` of device `c` holding what `prv c` sent. -/
def slotPay (c : Dev nD) (h : Fin 15) : sProp 𝕄 :=
  iprop(∃ f, ⌜(rV h).view.read (Elt F) f = A T h.val (prv c)⌝ ∗ rPts c h f)

def dut : CK → ℕ → Finset Bool
  | .inl 0, r => if r = 0 then Finset.univ else ∅
  | .inl 1, r => if r = 0 then Finset.univ else ∅
  | .inl 2, r => if r < 15 then {false} else ∅
  | .inl 3, r => if r < 15 then {false} else ∅
  | .inr _, r => if r = 0 then {false} else ∅

def amt : CK → ℕ
  | .inl 0 => 1
  | .inl 1 => 1
  | .inl 2 => NA
  | .inl 3 => NR
  | .inr (.inl _) => NA
  | .inr (.inr _) => NR

theorem amt_pos (k : CK) : 0 < amt k := by
  rcases k with k | k | k
  · fin_cases k
    · exact Nat.one_pos
    · exact Nat.one_pos
    · exact NA_pos
    · exact NR_pos
  · exact NA_pos
  · exact NR_pos

/-- What paying duty `d` of round `r` of device `c`'s cell `k` hands device `c`. -/
def pay (c : Dev nD) : CK → ℕ → Bool → sProp 𝕄
  | .inl 0, _, d => if d then barPay c else iprop(emp)
  | .inl 1, _, _ => iprop(emp)
  | .inl 2, r, _ => xPts c (bk c r) (blocks X)
  | .inl 3, r, _ => aPts c (A T r c)
  | .inr (.inl h), _, _ => xPts c (bk c (h.val + 1)) (blocks X)
  | .inr (.inr h), _, _ => slotPay T c h

instance pay_storable (c : Dev nD) (k : CK) (r : ℕ) (d : Bool) : BI.Storable (upEmb : UEmb _ 𝕄) (pay (F := F) X T c k r d) := by
  rcases k with k | k | k
  · fin_cases k
    · show BI.Storable upEmb (if d then barPay c else iprop(emp))
      unfold barPay; split <;> infer_instance
    · show BI.Storable upEmb (iprop(emp) : sProp 𝕄); infer_instance
    · show BI.Storable upEmb (xPts c (bk c r) (blocks X)); infer_instance
    · show BI.Storable upEmb (aPts c (A T r c)); infer_instance
  · show BI.Storable upEmb (xPts c (bk c (k.val + 1)) (blocks X)); infer_instance
  · show BI.Storable upEmb (slotPay T c k); unfold slotPay; infer_instance

def ringRd : Rounds.Schedule (GSem nD τ sig) Bool 𝕄 where
  duties g r := if g.1.2 = .tc then (role g.2).elim ∅ (fun k => dut k r) else ∅
  unitless _ := False
  amount g _ _ := (role g.2).elim 1 amt
  payload g r d := (role g.2).elim iprop(emp) (fun k => pay X T g.1.1 k r d)
  amount_pos g _ _ _ := by
    cases role g.2 with
    | none => exact Nat.one_pos
    | some k => exact amt_pos k

instance ringRd_payload_storable (g : GSem nD τ sig) (r : ℕ) (d : Bool) :
    BI.Storable (upEmb : UEmb _ 𝕄) ((ringRd (F := F) X T).payload g r d) := by
  show BI.Storable upEmb ((role g.2).elim iprop(emp) (fun k => pay X T g.1.1 k r d))
  cases role g.2 with
  | none => show BI.Storable upEmb (iprop(emp) : sProp 𝕄); infer_instance
  | some k => show BI.Storable upEmb (pay X T g.1.1 k r d); infer_instance

theorem duties_cell (c : Dev nD) (k : CK) (r : ℕ) : (ringRd (F := F) X T).duties (cell c k) r = dut k r := by
  show (if (c : Thread nD τ).2 = .tc then (role (csem k)).elim ∅ (fun k => dut k r) else ∅) = _
  rw [if_pos rfl, role_csem]; rfl
theorem amount_cell (c : Dev nD) (k : CK) (r : ℕ) (d : Bool) : (ringRd (F := F) X T).amount (cell c k) r d = amt k := by
  show (role (csem k)).elim 1 amt = _
  rw [role_csem]; rfl
theorem payload_cell (c : Dev nD) (k : CK) (r : ℕ) (d : Bool) : (ringRd (F := F) X T).payload (cell c k) r d = pay X T c k r d := by
  show (role (csem k)).elim iprop(emp) (fun k => pay X T c k r d) = _
  rw [role_csem]; rfl
theorem expect_cell (c : Dev nD) (k : CK) (r : ℕ) : (ringRd (F := F) X T).expect (cell c k) r = (dut k r).card * amt k := by
  unfold Schedule.expect Schedule.amountOf
  rw [duties_cell, Finset.sum_congr rfl fun d _ => amount_cell X T c k r d, Finset.sum_const, smul_eq_mul]

/-- The rest of a round, no duty taken. -/
theorem rest_cell (c : Dev nD) (k : CK) (r : ℕ) :
    bigSep ((ringRd (F := F) X T).duties (cell c k) r \ ∅) (fun d => (ringRd (F := F) X T).payload (cell c k) r d)
      = bigSep (dut k r) fun d => pay X T c k r d := by
  rw [Finset.sdiff_empty, duties_cell]
  exact bigSep_congr fun d _ => payload_cell X T c k r d

theorem dut_send {k : CK} (hk : k = kAgS ∨ k = kRsS) {r : ℕ} (hr : r < 15) : dut k r = {false} := by
  rcases hk with rfl | rfl <;> exact if_pos hr
theorem dut_recv (k : Fin 15 ⊕ Fin 15) : dut (.inr k) 0 = {false} := rfl

theorem rest_single (c : Dev nD) {k : CK} {r : ℕ} (h : dut k r = {false}) :
    bigSep ((ringRd (F := F) X T).duties (cell c k) r \ ∅) (fun d => (ringRd (F := F) X T).payload (cell c k) r d) = pay X T c k r false := by
  rw [rest_cell, h, bigSep_singleton]
theorem expect_single (c : Dev nD) {k : CK} {r : ℕ} (h : dut k r = {false}) : (ringRd (F := F) X T).expect (cell c k) r = amt k := by
  rw [expect_cell, h, Finset.card_singleton, Nat.one_mul]

/-- The last round of each cell. -/
def lastR : CK → ℕ
  | .inl 0 => 1
  | .inl 1 => 1
  | .inl 2 => 15
  | .inl 3 => 15
  | .inr _ => 1
theorem dut_later (k : CK) (r : ℕ) (h : lastR k ≤ r) : dut k r = ∅ := by
  rcases k with k | k
  · fin_cases k
    · exact if_neg (by change 1 ≤ r at h; omega)
    · exact if_neg (by change 1 ≤ r at h; omega)
    · exact if_neg (by change 15 ≤ r at h; omega)
    · exact if_neg (by change 15 ≤ r at h; omega)
  · exact if_neg (by change 1 ≤ r at h; omega)
theorem duties_later (c : Dev nD) (k : CK) : ∀ r, lastR k ≤ r → (ringRd (F := F) X T).duties (cell c k) r = ∅ := fun r h => by
  rw [duties_cell, dut_later k r h]

end Contents

/-! ## What each device owes at launch; the levels -/

def L (g : GSem nD τ sig) : Finset Unit := if g.1.2 = .tc then {()} else ∅
def lvK : CK → ℕ
  | .inl 0 => 1
  | .inl 1 => 32
  | .inl 2 => 0
  | .inl 3 => 0
  | .inr (.inl h) => 2 + h.val
  | .inr (.inr h) => 17 + h.val
def lv (g : GSem nD τ sig) (_ : Unit) : ℕ := (role g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (cell c k) () = lvK k := by
  show (role (csem k)).elim 0 lvK = _
  rw [role_csem]; rfl

/-- Everything owed is on cells of level at least `b`. -/
def Above (b : ℕ) (O : CellTallies nD τ sig Unit) : Prop := ∀ g u, 0 < O g u → g.1.2 = .tc ∧ b ≤ lv g u

theorem Above.zero (b : ℕ) : Above b 0 := fun _ _ h => absurd h (Nat.lt_irrefl 0)
theorem Above.add {b : ℕ} {O O' : CellTallies nD τ sig Unit} (h : Above b O) (h' : Above b O') : Above b (O + O') := fun g u hg =>
  (Pipeline.add_pos_cases hg).elim (h g u) (h' g u)
theorem Above.sum {b : ℕ} {α : Type} {s : Finset α} {D : α → CellTallies nD τ sig Unit} (h : ∀ x ∈ s, Above b (D x)) :
    Above b (∑ x ∈ s, D x) := fun g u hg => by
  obtain ⟨x, hx, hp⟩ := Pipeline.sum_pos_exists hg
  exact h x hx g u hp
theorem Above.tally {b : ℕ} (c : Dev nD) (k : CK) (n : ℕ) (h : b ≤ lvK k) : Above b (tallyAt (cell c k) () n) := fun g u hg => by
  obtain ⟨rfl, rfl⟩ := Pipeline.tallyAt_pos hg
  exact ⟨rfl, by rw [lv_cell]; exact h⟩
theorem Above.mono {b b' : ℕ} (hb : b' ≤ b) {O : CellTallies nD τ sig Unit} (h : Above b O) : Above b' O := fun g u hg =>
  ⟨(h g u hg).1, hb.trans (h g u hg).2⟩

theorem Above.mayWait {b : ℕ} {O : CellTallies nD τ sig Unit} (h : Above b O) (c : Dev nD) (sm : SemLoc sig)
    (hs : lv ((c : Thread nD τ), sm) () < b) : (levAts L lv : sProp 𝕄) ⊢ MayWait (c : Thread nD τ) sm () O :=
  Pipeline.mayWait_of_levAts (by rw [L_tc]; exact Finset.mem_singleton_self _) fun g u hg => by
    refine ⟨?_, lt_of_lt_of_le hs (h g u hg).2⟩
    unfold L; rw [if_pos (h g u hg).1]; exact Finset.mem_singleton_self _

/-- What is owed at the exit barrier: a unit to each neighbour; -/
def OX (c : Dev nD) : CellTallies nD τ sig Unit := tallyAt (cell (nxt c) kBar2) () 1 + tallyAt (cell (prv c) kBar2) () 1
/-- before hop `n` of the reduce-scatter: also the credit of every hop from `n` on; -/
def ORs (c : Dev nD) (n : ℕ) : CellTallies nD τ sig Unit :=
  OX c + ∑ h ∈ Finset.univ.filter (fun h : Fin 15 => n ≤ h.val), tallyAt (cell (nxt c) (kRsR h)) () NR
/-- before hop `n` of the all-gather: also the credit of every hop of it from `n` on. -/
def OAg (c : Dev nD) (n : ℕ) : CellTallies nD τ sig Unit :=
  ORs c 0 + ∑ h ∈ Finset.univ.filter (fun h : Fin 15 => n ≤ h.val), tallyAt (cell (nxt c) (kAgR h)) () NA
/-- At launch a device owes all of it, and a unit to each neighbour's entry barrier. -/
def O₀ (c : Dev nD) : CellTallies nD τ sig Unit :=
  (OAg c 0 + tallyAt (cell (nxt c) kBar) () 1) + tallyAt (cell (prv c) kBar) () 1

theorem peel {O : CellTallies nD τ sig Unit} (D : Fin 15 → CellTallies nD τ sig Unit) (h : Fin 15) :
    O + ∑ j ∈ Finset.univ.filter (fun j : Fin 15 => h.val ≤ j.val), D j
      = (O + ∑ j ∈ Finset.univ.filter (fun j : Fin 15 => h.val + 1 ≤ j.val), D j) + D h := by
  rw [show Finset.univ.filter (fun j : Fin 15 => h.val ≤ j.val) = insert h (Finset.univ.filter (fun j : Fin 15 => h.val + 1 ≤ j.val)) from by
      ext j; simp only [Finset.mem_filter, Finset.mem_univ, true_and, Finset.mem_insert, Fin.ext_iff]; omega,
    Finset.sum_insert (by simp), add_assoc, add_comm (D h)]
theorem ORs_peel (c : Dev nD) (h : Fin 15) : ORs c h.val = ORs c (h.val + 1) + tallyAt (cell (nxt c) (kRsR h)) () NR := peel _ h
theorem OAg_peel (c : Dev nD) (h : Fin 15) : OAg c h.val = OAg c (h.val + 1) + tallyAt (cell (nxt c) (kAgR h)) () NA := peel _ h
theorem ORs_end (c : Dev nD) : ORs c 15 = OX c := by
  unfold ORs; rw [Finset.filter_false_of_mem fun j _ => by have : j.val < 15 := j.isLt; omega, Finset.sum_empty, add_zero]
theorem OAg_end (c : Dev nD) : OAg c 15 = ORs c 0 := by
  unfold OAg; rw [Finset.filter_false_of_mem fun j _ => by have : j.val < 15 := j.isLt; omega, Finset.sum_empty, add_zero]

theorem OX_above (c : Dev nD) : Above 32 (OX c) := (Above.tally _ kBar2 1 (le_refl _)).add (Above.tally _ kBar2 1 (le_refl _))
theorem ORs_above (c : Dev nD) (n : ℕ) (hn : n ≤ 15) : Above (17 + n) (ORs c n) :=
  ((OX_above c).mono (by omega)).add (Above.sum fun h hh => Above.tally _ (kRsR h) NR (by
    have := (Finset.mem_filter.mp hh).2; show 17 + n ≤ 17 + h.val; omega))
theorem OAg_above (c : Dev nD) (n : ℕ) (hn : n ≤ 15) : Above (2 + n) (OAg c n) :=
  ((ORs_above c 0 (by omega)).mono (by omega)).add (Above.sum fun h hh => Above.tally _ (kAgR h) NA (by
    have := (Finset.mem_filter.mp hh).2; show 2 + n ≤ 2 + h.val; omega))
theorem O₀_above (c : Dev nD) : Above 1 (O₀ c) :=
  (((OAg_above c 0 (by omega)).mono (show 1 ≤ 2 + 0 by omega)).add (Above.tally _ kBar 1 (le_refl 1))).add (Above.tally _ kBar 1 (le_refl 1))

end Cert.RingAttn

end
-- ==== Proof.Hops.lean ====
/-
The hops. A hop of the all-gather: device `c` copies the block it received last to `nxt c`, waits until its own copy
has left and until the copy from `prv c` has landed. A hop of the reduce-scatter likewise, on the running sum. Each is
proved once, at a symbolic hop number; the state between hops is `AgSt c n` and `RsSt c n`.
-/
module

public import proofs.«01_k».proof.Proof.Common

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Fifteen steps, some done -/

/-- `Q j` for the steps before `n`, `P j` for the rest. -/
def lad (P Q : Fin 15 → sProp 𝕄) (n : ℕ) : sProp 𝕄 := bigSep Finset.univ fun j => if j.val < n then Q j else P j

theorem lad_zero (P Q : Fin 15 → sProp 𝕄) : lad P Q 0 = bigSep Finset.univ P :=
  bigSep_congr fun j _ => if_neg (Nat.not_lt_zero _)
theorem lad_end (P Q : Fin 15 → sProp 𝕄) : lad P Q 15 = bigSep Finset.univ Q :=
  bigSep_congr fun j _ => if_pos j.isLt
theorem lad_step (P Q : Fin 15 → sProp 𝕄) (h : Fin 15) : lad P Q h.val ⊢ iprop(P h ∗ (Q h -∗ lad P Q (h.val + 1))) := by
  have h1 : lad P Q h.val = iprop((if h.val < h.val then Q h else P h) ∗ bigSep (Finset.univ.erase h) fun j => if j.val < h.val then Q j else P j) :=
    bigSep_univ_at _ h
  have h2 : lad P Q (h.val + 1) = iprop((if h.val < h.val + 1 then Q h else P h) ∗ bigSep (Finset.univ.erase h) fun j => if j.val < h.val + 1 then Q j else P j) :=
    bigSep_univ_at _ h
  have h3 : (bigSep (Finset.univ.erase h) fun j => if j.val < h.val + 1 then Q j else P j) = bigSep (Finset.univ.erase h) fun j => if j.val < h.val then Q j else P j :=
    bigSep_congr fun j hj => by
      have hne : j.val ≠ h.val := fun e => (Finset.mem_erase.mp hj).1 (Fin.ext e)
      by_cases hlt : j.val < h.val
      · rw [if_pos hlt, if_pos (by omega)]
      · rw [if_neg hlt, if_neg (by omega)]
  rw [h1, h2, h3, if_neg (Nat.lt_irrefl _), if_pos (Nat.lt_succ_self _)]
  iintro ⟨HP, HR⟩
  isplitl [HP]; · iexact HP
  iintro HQ
  isplitl [HQ]; · iexact HQ
  iexact HR

section

variable (X : Dev nD → Vec F S256x512 .f32) (T : Dev nD → Dev nD → Vec F S256x512 .f32) (K : Dev nD × CK → ℕ)

/-- The invariants of all cells of all devices, and that every one has reached round 0. -/
def records : sProp 𝕄 :=
  iprop((bigSep Finset.univ fun ck : Dev nD × CK => cellInv ER (ringRd X T) (K ck) (cell ck.1 ck.2))
    ∗ bigSep Finset.univ fun ck : Dev nD × CK => reached ER (cell ck.1 ck.2) 0)

instance records_persistent : BI.Persistent (records X T K) := by unfold records; infer_instance

theorem inv_at (ck : Dev nD × CK) :
    (bigSep Finset.univ fun ck : Dev nD × CK => (cellInv ER (ringRd X T) (K ck) (cell ck.1 ck.2) : sProp 𝕄)) ⊢ cellInv ER (ringRd X T) (K ck) (cell ck.1 ck.2) :=
  bigSep_elim (Finset.mem_univ ck)
omit [FloatOps F] in
theorem reached_at (ck : Dev nD × CK) :
    (bigSep Finset.univ fun ck : Dev nD × CK => (reached ER (cell ck.1 ck.2) 0 : sProp 𝕄)) ⊢ reached ER (cell ck.1 ck.2) 0 :=
  bigSep_elim (Finset.mem_univ ck)

theorem rec_inv (c : Dev nD) (k : CK) : records X T K ⊢ cellInv ER (ringRd X T) (K (c, k)) (cell c k) := by
  unfold records
  iintro ⟨HI, -⟩
  ihave H := (inv_at X T K (c, k)) $$ HI
  iexact H
theorem rec_reached (c : Dev nD) (k : CK) : records X T K ⊢ reached ER (cell c k) 0 := by
  unfold records
  iintro ⟨-, HR⟩
  ihave H := (reached_at (c, k)) $$ HR
  iexact H

/-- A send cell's round, in one transfer to the next device, both rounds' payloads given. -/
theorem wp_wait_one (c : Dev nD) (k : CK) (r : ℕ) (hd : dut k r = {false}) {q : DmaSem sig} (hq : csem k = .dma q)
    {sp sp' : Space} {s s' : Shape} {e e' : EltTy} {src : Memref sig .tc sp' s' e'} {dst : Memref sig .tc sp s e}
    {hsrc : src.view.WordExact} {hdst : dst.view.WordExact} (hn : dst.view.dmaCredit = amt k)
    {α : Type} {Q : α → sProp 𝕄} {kt : PUnit → Prog (TpuEff nD τ sig (Elt F) Λ₀ .tc) α}
    (O : CellTallies nD τ sig Unit) (hO : Above (lvK k + 1) O) (W : Waits sig Unit) :
    iprop(records X T K ∗ levAts L lv ∗ cred (tallyAt (cell c k) () (amt k)) ∗ owes (c : Thread nD τ) O W ∗ atPos ER (cell c k) r ∅ 0)
      ⊢ iprop((((∃ W', owes (c : Thread nD τ) O W') ∗ atPos ER (cell c k) (r + 1) ∅ 0 ∗ reached ER (cell c k) (r + 1) ∗ pay X T c k r false)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  have hg : ((c : Thread nD τ), SemLoc.dma q) = cell c k := by rw [← hq]
  iintro ⟨#HR, #Hlev, Hc, HO, Hat⟩ Hk
  iapply (Rounds.wp_wait_rest_token 𝒱₀ ER (ringRd X T) (c : Thread nD τ) none (κ := K (c, k))
      (wpE_waitDma2_eq 𝒱₀ (c : Thread nD τ) none Set.univ) (Set.mem_univ _) () (O := O) (W := W) (R := r) (m := 0) (T := ∅)
      (by rw [hg, expect_single X T c hd, Nat.zero_add, hn])) $$ [Hc HO Hat]
  · rw [hg, hn]
    isplitr; · iapply (rec_inv X T K c k); iexact HR
    isplitl [Hc]; · iexact Hc
    isplitl [HO]; · iexact HO
    isplitr
    · iapply (hO.mayWait c (.dma q) (by rw [hg, lv_cell]; exact Nat.lt_succ_self _)); iexact Hlev
    iexact Hat
  rw [hg, rest_single X T c hd]
  iintro ⟨HO, Hat, Hr, Hp⟩
  iapply Hk
  isplitl [HO]; · iexists _; iexact HO
  isplitl [Hat]; · iexact Hat
  isplitl [Hr] <;> iassumption

theorem close (c : Dev nD) (k : CK) : iprop(records X T K ∗ atPos ER (cell c k) (lastR k) ∅ 0) ⊢ |={Set.univ}=> semVal (cell c k) 0 := by
  iintro ⟨#HR, Hat⟩
  iapply (Rounds.cell_close ER (ringRd X T) (Set.mem_univ (K (c, k))) (fun h => h) (R := lastR k) (duties_later X T c k))
  isplitr; · iapply (rec_inv X T K c k); iexact HR
  iexact Hat

/-! ## The all-gather -/

def agP (c : Dev nD) (h : Fin 15) : sProp 𝕄 :=
  iprop(dutyTok ER (cell (nxt c) (kAgR h)) 0 false ∗ dutyTok ER (cell c kAgS) h.val false
    ∗ atPos ER (cell c (kAgR h)) 0 ∅ 0 ∗ cred (tallyAt (cell c (kAgR h)) () NA) ∗ ∃ f, xPts (nxt c) (bk c h.val) f)
def agQd (c : Dev nD) (h : Fin 15) : sProp 𝕄 := iprop(xPts c (bk c h.val) (blocks X) ∗ semVal (cell c (kAgR h)) 0)

/-- Before hop `n` of the all-gather. -/
def AgSt (c : Dev nD) (n : ℕ) : sProp 𝕄 :=
  iprop(lad (agP c) (agQd X c) n ∗ xPts c (bk c n) (blocks X) ∗ atPos ER (cell c kAgS) n ∅ 0 ∗ reached ER (cell c kAgS) n
    ∗ ∃ W, owes (c : Thread nD τ) (OAg c n) W)

theorem set_xV (c : Dev nD) (h : Fin 15) : (xV c h).view.set = xset (bk c h.val) := set_xAt _ _ _ (k0_off2_eq c h)

theorem send_ag (c n : Dev nD) (hn : n = nxt c) (h : Fin 15) {hsc : (xV c h).view.ref.isScScratch = false}
    {hsrc : (xV c h).view.WordExact} {hdst : (xV c h).view.WordExact}
    {hsem : DmaTarget.Typed .vmem (.dma (agQ h)) (.remote (Dev.tc n : Thread nD τ) (xV c h) (.dma cc0_scratch7.sem) hsc)}
    {α : Type} {Q : α → sProp 𝕄} {kt : PUnit → Prog (TpuEff nD τ sig (Elt F) Λ₀ .tc) α}
    (fn : Vec F S4096x512 .f32) (W : Waits sig Unit) :
    iprop(records X T K ∗ xPts c (bk c h.val) (blocks X) ∗ xPts (nxt c) (bk c h.val) fn ∗ owes (c : Thread nD τ) (OAg c h.val) W
        ∗ dutyTok ER (cell c kAgS) h.val false ∗ reached ER (cell c kAgS) h.val ∗ dutyTok ER (cell (nxt c) (kAgR h)) 0 false)
      ⊢ iprop(((cred (tallyAt (cell c kAgS) () NA) ∗ owes (c : Thread nD τ) (OAg c (h.val + 1)) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xV c h) (.remote (Dev.tc n : Thread nD τ) (xV c h) (.dma cc0_scratch7.sem) hsc) (.dma (agQ h)) hsrc hdst hsem) kt) Q) := by
  subst hn
  have key := Rounds.wp_send_pointsTo 𝒱₀ ER (ringRd X T) (c : Thread nD τ) none (κ₁ := K (c, kAgS)) (κ₂ := K (nxt c, kAgR h))
    (c' := (nxt c : Thread nD τ)) (Γ := .empty) (defs := defs₀ (F := F)) (src := xV c h) (dst := xV c h) (hsc := hsc) (sS := .dma cc0_scratch7.sem) (sem := .dma (agQ h))
    (hsrc := hsrc) (hdst := hdst) (hsem := hsem) (k := kt) (Q := Q) (q := fullShare)
    (fs := blocks X) (fd := fn) (r₁ := h.val) (r₂ := 0) (d₁ := false) (d₂ := false)
    (by show false ∈ (ringRd X T).duties (cell c kAgS) h.val; rw [duties_cell, dut_send (.inl rfl) h.isLt]; exact Finset.mem_singleton_self _)
    (by show false ∈ (ringRd X T).duties (cell (nxt c) (kAgR h)) 0; rw [duties_cell]; exact Finset.mem_singleton_self _)
    () () NA rfl (amount_cell X T c kAgS h.val false) (amount_cell X T (nxt c) (kAgR h) 0 false) (OAg c (h.val + 1)) (OAg_peel c h) (W := W)
    (by
      show _ ⊢ (ringRd X T).payload (cell c kAgS) h.val false
      rw [payload_cell, set_xV]; exact BI.Entails.refl _)
    (by
      show _ ⊢ (ringRd X T).payload (cell (nxt c) (kAgR h)) 0 false
      rw [payload_cell]
      show _ ⊢ xPts (nxt c) (bk (nxt c) (h.val + 1)) (blocks X)
      rw [bk_nxt c h.val (by have : h.val < 15 := h.isLt; omega), read_blocks X (bk c h.val) _ _ (k0_off2_eq c h)]
      refine Entails.of_eq ?_
      unfold xPts
      rw [← set_xV c h]
      exact pointsTo_congr (write_blocks X (bk c h.val) _ _ (k0_off2_eq c h) fn)) (Es := Set.univ)
  rw [set_xV] at key
  unfold xPts
  iintro ⟨#HR, Hx, Hn, HO, Ht, Hr, Htn⟩
  iapply key
  isplitr; · iapply (rec_inv X T K c kAgS); iexact HR
  isplitr; · iapply (rec_inv X T K (nxt c) (kAgR h)); iexact HR
  isplitl [Hx]; · iexact Hx
  isplitl [Hn]; · iexact Hn
  isplitl [HO]; · iexact HO
  isplitl [Ht]; · iexact Ht
  isplitl [Hr]; · iexact Hr
  isplitl [Htn]; · iexact Htn
  iapply (rec_reached X T K (nxt c) (kAgR h)); iexact HR

/-- One hop of the all-gather. -/
theorem hop_ag (c n : Dev nD) (hn : n = nxt c) (h : Fin 15) {hsc : (xV c h).view.ref.isScScratch = false}
    {hsrc : (xV c h).view.WordExact} {hdst : (xV c h).view.WordExact}
    {hsem : DmaTarget.Typed .vmem (.dma (agQ h)) (.remote (Dev.tc n : Thread nD τ) (xV c h) (.dma cc0_scratch7.sem) hsc)}
    {h1 h2 h3 h4 : (xV c h).view.WordExact}
    {α : Type} {Q : α → sProp 𝕄} {kt : PUnit → Prog (TpuEff nD τ sig (Elt F) Λ₀ .tc) α} :
    iprop(records X T K ∗ levAts L lv ∗ AgSt X c h.val)
      ⊢ iprop((AgSt X c (h.val + 1) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xV c h) (.remote (Dev.tc n : Thread nD τ) (xV c h) (.dma cc0_scratch7.sem) hsc) (.dma (agQ h)) hsrc hdst hsem)
                fun _ => .op (.waitDma2 cc0_scratch7.sem (xV c h) (xV c h) h1 h2) fun _ => .op (.waitDma2 (agQ h) (xV c h) (xV c h) h3 h4) kt) Q) := by
  have hh : h.val < 15 := h.isLt
  iintro ⟨#HR, #Hlev, HS⟩ Hk
  unfold AgSt
  icases HS with ⟨HL, Hx, HatS, Hr, %W, HO⟩
  ihave HL := (lad_step (agP c) (agQd X c) h) $$ HL
  icases HL with ⟨HP, HL⟩
  unfold agP
  icases HP with ⟨Htn, Ht, HatR, HcR, %fn, Hn⟩
  iapply (send_ag X T K c n hn h fn W) $$ [Hx Hn HO Ht Hr Htn]
  · isplitr; · iexact HR
    isplitl [Hx]; · iexact Hx
    isplitl [Hn]; · iexact Hn
    isplitl [HO]; · iexact HO
    isplitl [Ht]; · iexact Ht
    isplitl [Hr] <;> iassumption
  iintro ⟨HcS, HO⟩
  iapply (wp_wait_one X T K c kAgS h.val (dut_send (.inl rfl) h.isLt) (q := cc0_scratch7.sem) (src := xV c h) (dst := xV c h) rfl rfl (hsrc := h1) (hdst := h2) (OAg c (h.val + 1)) ((OAg_above c _ (by omega)).mono (show 0 + 1 ≤ _ by omega)) W) $$ [HcS HO HatS]
  · isplitr; · iexact HR
    isplitr; · iexact Hlev
    isplitl [HcS]; · iexact HcS
    isplitl [HO] <;> iassumption
  rw [show pay X T c kAgS h.val false = xPts c (bk c h.val) (blocks X) from rfl]
  iintro ⟨⟨%W1, HO⟩, HatS, Hr, Hx⟩
  iapply (wp_wait_one X T K c (kAgR h) 0 rfl (q := agQ h) (src := xV c h) (dst := xV c h) (hsrc := h3) (hdst := h4) rfl rfl (OAg c (h.val + 1)) ((OAg_above c _ (by omega)).mono (show 2 + h.val + 1 ≤ _ by omega)) W1) $$ [HcR HO HatR]
  · isplitr; · iexact HR
    isplitr; · iexact Hlev
    isplitl [HcR]; · iexact HcR
    isplitl [HO] <;> iassumption
  rw [show pay X T c (kAgR h) 0 false = xPts c (bk c (h.val + 1)) (blocks X) from rfl]
  iintro ⟨HO, HatR, -, Hx'⟩
  imod (close X T K c (kAgR h)) $$ [HatR] with Hz
  · isplitr; · iexact HR
    iexact HatR
  iapply Hk
  isplitl [HL Hx Hz]
  · iapply HL
    unfold agQd
    isplitl [Hx]; · iexact Hx
    iexact Hz
  isplitl [Hx']; · iexact Hx'
  isplitl [HatS]; · iexact HatS
  isplitl [Hr] <;> iassumption

/-! ## The reduce-scatter -/

def pPts (c : Dev nD) (f : Vec F S4096x512 .f32) : sProp 𝕄 := ((c : Thread nD τ).loc cc0_scratch1) ↦{fullShare} f

def rsP (c : Dev nD) (h : Fin 15) : sProp 𝕄 :=
  iprop(dutyTok ER (cell (nxt c) (kRsR h)) 0 false ∗ dutyTok ER (cell c kRsS) h.val false
    ∗ atPos ER (cell c (kRsR h)) 0 ∅ 0 ∗ cred (tallyAt (cell c (kRsR h)) () NR) ∗ ∃ f, rPts (nxt c) h f)
def rsQd (c : Dev nD) (h : Fin 15) : sProp 𝕄 := iprop((∃ f, rPts c h f) ∗ semVal (cell c (kRsR h)) 0)

/-- Hop `n` of the reduce-scatter about to start; -/
def RsSt (c : Dev nD) (n : ℕ) : sProp 𝕄 :=
  iprop(lad (rsP c) (rsQd (F := F) c) n ∗ aPts c (A T n c) ∗ atPos ER (cell c kRsS) n ∅ 0 ∗ reached ER (cell c kRsS) n
    ∗ ∃ W, owes (c : Thread nD τ) (ORs c n) W)
/-- hop `h` landed: the slot holds what `prv c` sent. -/
def RsMid (c : Dev nD) (h : Fin 15) : sProp 𝕄 :=
  iprop((∃ f, ⌜(rV h).view.read (Elt F) f = A T h.val (prv c)⌝ ∗ rPts c h f ∗ (rPts c h f -∗ lad (rsP c) (rsQd (F := F) c) (h.val + 1)))
    ∗ aPts c (A T h.val c) ∗ atPos ER (cell c kRsS) (h.val + 1) ∅ 0 ∗ reached ER (cell c kRsS) (h.val + 1)
    ∗ ∃ W, owes (c : Thread nD τ) (ORs c (h.val + 1)) W)

theorem set_aM : aM.view.set = Finset.univ := View.set_whole _

theorem send_rs (c n : Dev nD) (hn : n = nxt c) (h : Fin 15) {hsc : (rV h).view.ref.isScScratch = false}
    {hsrc : aM.view.WordExact} {hdst : (rV h).view.WordExact}
    {hsem : DmaTarget.Typed .vmem (.dma (rsQ h)) (.remote (Dev.tc n : Thread nD τ) (rV h) (.dma cc0_scratch8.sem) hsc)}
    {α : Type} {Q : α → sProp 𝕄} {kt : PUnit → Prog (TpuEff nD τ sig (Elt F) Λ₀ .tc) α}
    (fn : Vec F S15x256x512 .f32) (W : Waits sig Unit) :
    iprop(records X T K ∗ aPts c (A T h.val c) ∗ rPts (nxt c) h fn ∗ owes (c : Thread nD τ) (ORs c h.val) W
        ∗ dutyTok ER (cell c kRsS) h.val false ∗ reached ER (cell c kRsS) h.val ∗ dutyTok ER (cell (nxt c) (kRsR h)) 0 false)
      ⊢ iprop(((cred (tallyAt (cell c kRsS) () NR) ∗ owes (c : Thread nD τ) (ORs c (h.val + 1)) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma aM (.remote (Dev.tc n : Thread nD τ) (rV h) (.dma cc0_scratch8.sem) hsc) (.dma (rsQ h)) hsrc hdst hsem) kt) Q) := by
  subst hn
  have key := Rounds.wp_send_pointsTo 𝒱₀ ER (ringRd X T) (c : Thread nD τ) none (κ₁ := K (c, kRsS)) (κ₂ := K (nxt c, kRsR h))
    (c' := (nxt c : Thread nD τ)) (Γ := .empty) (defs := defs₀ (F := F)) (src := aM) (dst := rV h) (hsc := hsc) (sS := .dma cc0_scratch8.sem) (sem := .dma (rsQ h))
    (hsrc := hsrc) (hdst := hdst) (hsem := hsem) (k := kt) (Q := Q) (q := fullShare)
    (fs := A T h.val c) (fd := fn) (r₁ := h.val) (r₂ := 0) (d₁ := false) (d₂ := false)
    (by show false ∈ (ringRd X T).duties (cell c kRsS) h.val; rw [duties_cell, dut_send (.inr rfl) h.isLt]; exact Finset.mem_singleton_self _)
    (by show false ∈ (ringRd X T).duties (cell (nxt c) (kRsR h)) 0; rw [duties_cell]; exact Finset.mem_singleton_self _)
    () () NR rfl (amount_cell X T c kRsS h.val false) (amount_cell X T (nxt c) (kRsR h) 0 false) (ORs c (h.val + 1)) (ORs_peel c h) (W := W)
    (by
      show _ ⊢ (ringRd X T).payload (cell c kRsS) h.val false
      rw [payload_cell, set_aM]; show _ ⊢ aPts c (A T h.val c); exact BI.Entails.refl _)
    (by
      show _ ⊢ (ringRd X T).payload (cell (nxt c) (kRsR h)) 0 false
      rw [payload_cell]
      show _ ⊢ slotPay T (nxt c) h
      unfold slotPay rPts
      iintro H
      iexists _
      isplitr
      rotate_left
      · iexact H
      · ipureintro
        rw [View.read_write_univ, prv_nxt]
        rfl) (Es := Set.univ)
  rw [set_aM] at key
  unfold aPts rPts
  iintro ⟨#HR, Hx, Hn, HO, Ht, Hr, Htn⟩
  iapply key
  isplitr; · iapply (rec_inv X T K c kRsS); iexact HR
  isplitr; · iapply (rec_inv X T K (nxt c) (kRsR h)); iexact HR
  isplitl [Hx]; · iexact Hx
  isplitl [Hn]; · iexact Hn
  isplitl [HO]; · iexact HO
  isplitl [Ht]; · iexact Ht
  isplitl [Hr]; · iexact Hr
  isplitl [Htn]; · iexact Htn
  iapply (rec_reached X T K (nxt c) (kRsR h)); iexact HR

/-- One hop of the reduce-scatter, up to its landing. -/
theorem hop_rs (c n : Dev nD) (hn : n = nxt c) (h : Fin 15) {hsc : (rV h).view.ref.isScScratch = false}
    {hsrc : aM.view.WordExact} {hdst : (rV h).view.WordExact}
    {hsem : DmaTarget.Typed .vmem (.dma (rsQ h)) (.remote (Dev.tc n : Thread nD τ) (rV h) (.dma cc0_scratch8.sem) hsc)}
    {h1 : (rV h).view.WordExact} {h2 h3 : aM.view.WordExact} {h4 : (rV h).view.WordExact}
    {α : Type} {Q : α → sProp 𝕄} {kt : PUnit → Prog (TpuEff nD τ sig (Elt F) Λ₀ .tc) α} :
    iprop(records X T K ∗ levAts L lv ∗ RsSt T c h.val)
      ⊢ iprop((RsMid T c h -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma aM (.remote (Dev.tc n : Thread nD τ) (rV h) (.dma cc0_scratch8.sem) hsc) (.dma (rsQ h)) hsrc hdst hsem)
                fun _ => .op (.waitDma2 cc0_scratch8.sem (rV h) aM h1 h2) fun _ => .op (.waitDma2 (rsQ h) aM (rV h) h3 h4) kt) Q) := by
  have hh : h.val < 15 := h.isLt
  iintro ⟨#HR, #Hlev, HS⟩ Hk
  unfold RsSt
  icases HS with ⟨HL, Hx, HatS, Hr, %W, HO⟩
  ihave HL := (lad_step (rsP c) (rsQd (F := F) c) h) $$ HL
  icases HL with ⟨HP, HL⟩
  unfold rsP
  icases HP with ⟨Htn, Ht, HatR, HcR, %fn, Hn⟩
  iapply (send_rs X T K c n hn h fn W) $$ [Hx Hn HO Ht Hr Htn]
  · isplitr; · iexact HR
    isplitl [Hx]; · iexact Hx
    isplitl [Hn]; · iexact Hn
    isplitl [HO]; · iexact HO
    isplitl [Ht]; · iexact Ht
    isplitl [Hr] <;> iassumption
  iintro ⟨HcS, HO⟩
  iapply (wp_wait_one X T K c kRsS h.val (dut_send (.inr rfl) h.isLt) (q := cc0_scratch8.sem) (src := rV h) (dst := aM) rfl rfl (hsrc := h1) (hdst := h2) (ORs c (h.val + 1)) ((ORs_above c _ (by omega)).mono (show 0 + 1 ≤ _ by omega)) W) $$ [HcS HO HatS]
  · isplitr; · iexact HR
    isplitr; · iexact Hlev
    isplitl [HcS]; · iexact HcS
    isplitl [HO] <;> iassumption
  rw [show pay X T c kRsS h.val false = aPts c (A T h.val c) from rfl]
  iintro ⟨⟨%W1, HO⟩, HatS, Hr, Hx⟩
  iapply (wp_wait_one X T K c (kRsR h) 0 rfl (q := rsQ h) (src := aM) (dst := rV h) (hsrc := h3) (hdst := h4) rfl rfl (ORs c (h.val + 1)) ((ORs_above c _ (by omega)).mono (show 17 + h.val + 1 ≤ _ by omega)) W1) $$ [HcR HO HatR]
  · isplitr; · iexact HR
    isplitr; · iexact Hlev
    isplitl [HcR]; · iexact HcR
    isplitl [HO] <;> iassumption
  rw [show pay X T c (kRsR h) 0 false = slotPay T c h from rfl]
  unfold slotPay
  iintro ⟨HO, HatR, -, %f, %hf, Hf⟩
  imod (close X T K c (kRsR h)) $$ [HatR] with Hz
  · isplitr; · iexact HR
    iexact HatR
  iapply Hk
  unfold RsMid
  isplitl [HL Hf Hz]
  · iexists f
    isplitr; · ipureintro; exact hf
    isplitl [Hf]; · iexact Hf
    iintro Hf
    iapply HL
    unfold rsQd
    isplitl [Hf]; · iexists f; iexact Hf
    iexact Hz
  isplitl [Hx]; · iexact Hx
  isplitl [HatS]; · iexact HatS
  isplitl [Hr] <;> iassumption

theorem read_pacc (g : Dev nD → Vec F S256x512 .f32) (k : Dev nD) (off : Fin 2 → ℕ) (h) (ho : off = ![256 * k.val, 0]) :
    pM.view.readAt (Elt F) (Rect.unit (s := S4096x512) off S256x512.size h).toLoadRect (blocks g) = g k :=
  read_blocks g k off h ho

theorem write_a (hin : ∀ a, (![0, 0] : Fin 2 → ℕ) a + S256x512.size a ≤ S256x512.size a) (f w : Vec F S256x512 .f32) :
    (aM.access (Rect.unit (s := S256x512) ![0, 0] S256x512.size hin)).write (Elt F) f w Finset.univ = w :=
  Memref.write_access_unit_zero_univ (Elt F) cc0_scratch3 (off := ![0, 0]) (funext fun a => by fin_cases a <;> rfl) hin f w

theorem rRect_sub (h : Fin 15) : rM.view.setOn (rRect h).toLoadRect.set ⊆ rset h := by
  refine Memref.setOn_subset_of_access_subset (c := ((0 : Dev nD) : Thread nD τ)) ?_
  unfold rset
  show ((View.whole cc0_scratch4).slice (rRect h)).set ⊆ (((View.whole cc0_scratch4).slice (rRect h)).reshape S256x512 squeezes_S1x256x512_S256x512.numel_eq).set
  rw [View.set_reshape, View.set_slice_whole]

/-- The running sum after hop `h`, made from what landed, the next block and stored where the sum is kept. -/
theorem tail_rs (c : Dev nD) (h : Fin 14) (payF : Vec F S1x256x512 .f32 → Vec F S256x512 .f32 → Vec F S256x512 .f32)
    (hp : payF = fun v w => addV (shapeCast S256x512 v shapeCasts_S1x256x512_S256x512) w)
    {hl1 : rM.view.LoadsAt (rRect h.castSucc).toLoadRect}
    {hl2 : pM.view.LoadsAt (Rect.unit (s := S4096x512) (k0_off6 c (BitVec.ofNat 32 h.val)) S256x512.size (k0_off6_inb c h.castSucc)).toLoadRect}
    {hin3 : ∀ a, (![0, 0] : Fin 2 → ℕ) a + S256x512.size a ≤ S256x512.size a}
    {hl3 : aM.view.LoadsAt (Rect.unit (s := S256x512) ![0, 0] S256x512.size hin3).toLoadRect}
    {hx : (aM.access (Rect.unit (s := S256x512) ![0, 0] S256x512.size hin3)).Stores Finset.univ} {hm}
    {α : Type} {Q : α → sProp 𝕄} {kt : PUnit → Prog (TpuEff nD τ sig (Elt F) Λ₀ .tc) α} :
    iprop(RsMid T c h.castSucc ∗ pPts c (blocks (T c)))
      ⊢ iprop(((RsSt T c (h.val + 1) ∗ pPts c (blocks (T c))) -∗ wp frame (wpE (defs₀ (F := F)) 𝒱₀ (c : Thread nD τ) none) Set.univ (kt ⟨⟩) Q)
          -∗ wp frame (wpE (defs₀ (F := F)) 𝒱₀ (c : Thread nD τ) none) Set.univ
              (.op (.load rM (rRect h.castSucc).toLoadRect hl1) fun v =>
                .op (.load pM (Rect.unit (s := S4096x512) (k0_off6 c (BitVec.ofNat 32 h.val)) S256x512.size (k0_off6_inb c h.castSucc)).toLoadRect hl2) fun w =>
                .op (.load aM (Rect.unit (s := S256x512) ![0, 0] S256x512.size hin3).toLoadRect hl3) fun _ =>
                .op (.store aM (Rect.unit (s := S256x512) ![0, 0] S256x512.size hin3) (payF v w) Finset.univ hx hm) kt) Q) := by
  have hh : h.val < 14 := h.isLt
  have hc : c.val < 16 := c.isLt
  subst hp
  unfold RsMid RsSt aPts rPts pPts
  iintro ⟨⟨⟨%f, %hf, Hf, HL⟩, Hx, HatS, Hr, HO⟩, Hp⟩ Hk
  iapply (wp_load 𝒱₀ (c : Thread nD τ) none Set.univ (m := rM) (rRect_sub h.castSucc)) $$ Hf; iintro Hf
  iapply (wp_load 𝒱₀ (c : Thread nD τ) none Set.univ (m := pM) (Finset.subset_univ _)) $$ Hp; iintro Hp
  iapply (wp_load 𝒱₀ (c : Thread nD τ) none Set.univ (m := aM) (Finset.subset_univ _)) $$ Hx; iintro Hx
  iapply (wp_store 𝒱₀ (c : Thread nD τ) none Set.univ (m := aM) (r := Rect.unit (s := S256x512) ![0, 0] S256x512.size hin3) (Mk := Finset.univ) (Finset.subset_univ _)) $$ Hx; iintro Hx
  have e : addV (shapeCast S256x512 (rM.view.readAt (Elt F) (rRect h.castSucc).toLoadRect f) shapeCasts_S1x256x512_S256x512)
      (pM.view.readAt (Elt F) (Rect.unit (s := S4096x512) (k0_off6 c (BitVec.ofNat 32 h.val)) S256x512.size (k0_off6_inb c h.castSucc)).toLoadRect (blocks (T c)))
      = A T (h.val + 1) c := by
    rw [read_rV, hf, read_pacc (T c) (bk c (h.val + 2)) _ _ ((show k0_off6 c (BitVec.ofNat 32 h.val) = _ from k0_off6_eq c h.castSucc).trans (by
      show (![256 * (((c.val + 46) - h.val) % 16), 0] : Fin 2 → ℕ) = ![256 * ((c.val + 32 - (h.val + 2)) % 16), 0]
      rw [show (c.val + 46) - h.val = 16 + (c.val + 32 - (h.val + 2)) by omega, Nat.add_mod_left]))]
    rfl
  beta_reduce
  rw [e, write_a]
  iapply Hk
  isplitr [Hp]
  · isplitl [HL Hf]; · iapply HL; iexact Hf
    isplitl [Hx]; · iexact Hx
    isplitl [HatS]; · iexact HatS
    isplitl [Hr]; · iexact Hr
    iexact HO
  iexact Hp

end

end Cert.RingAttn

end
-- ==== Proof.Loop.lean ====
/-
The loop over the sixteen blocks. Trip `k` copies block `k`'s keys and values of the device's own heads, computes the
queries of block `k`, one head of one batch row at a time the attention, and stores the heads times the device's rows of
the output weights as block `k` of the partial products.
-/
module

public import proofs.«01_k».proof.Proof.Hops

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One head -/

/-- One head of one batch row: the scores of 128 queries against 128 keys over 8, their softmax, times the values. -/
def head (q kk vv : FVec F S128x64 .f32) : FVec F S128x64 .f32 :=
  have s : FVec F S128x128 .f32 := mulf (matmul dot_S128x64_S128x64_S128x128_1_1_0_0_n_n none q kk (constant S128x128 .f32 0x00000000#32))
    (broadcast S128x128 (Scalar.ofBits .f32 0x3E000000#32 : F .f32))
  have m : FVec F S128 .f32 := multiReduction .maximumf [1] S128 s 0xFF800000#32 reduces_S128x128_S128 (.inl rfl) rfl
  have p : FVec F S128x128 .f32 := exp (subf s (broadcastTo S128x128 (shapeCast S128x1 m shapeCasts_S128_S128x1) broadcasts_S128x1_S128x128))
  have l : FVec F S128 .f32 := multiReduction .add [1] S128 p 0x00000000#32 reduces_S128x128_S128 (.inl rfl) rfl
  shapeCast S128x64 (divf (matmul dot_S128x128_S128x64_S128x64_1_0_0_1_n_n none p vv (constant S128x64 .f32 0x00000000#32))
    (broadcastTo S128x64 (shapeCast S128x1 l shapeCasts_S128_S128x1) broadcasts_S128x1_S128x64)) shapeCasts_S128x64_S128x64

abbrev kM : Memref sig .tc .vmem S2x128x8x64 .f32 := Memref.whole cc0_scratch5
abbrev vM : Memref sig .tc .vmem S2x128x8x64 .f32 := Memref.whole cc0_scratch6
abbrev wqM : Memref sig .tc .vmem S512x512 .f32 := Memref.whole cc0_stg1_0
abbrev woM : Memref sig .tc .vmem S512x512 .f32 := Memref.whole cc0_stg2_0

/-- The loop's body on this launch's buffers. -/
abbrev tripBody (c : Dev nD) (v2 v7 : BitVec 32) (k : Fin k0_t1_loop.trips) : Prog (TpuEff nD τ sig (Elt F) Λ₀ .tc) Unit :=
  k0_t1_body (F := F) (Memref.whole cc0_stg0_0) (Memref.isWhole_whole _) wqM (Memref.isWhole_whole _) woM (Memref.isWhole_whole _)
    (Memref.whole main_arg3) (Memref.isWhole_whole _) (Memref.whole main_arg4) (Memref.isWhole_whole _) (Memref.whole cc0_stg3_0) (Memref.isWhole_whole _)
    xM (Memref.isWhole_whole _) pM (Memref.isWhole_whole _) oM (Memref.isWhole_whole _) aM (Memref.isWhole_whole _) rM (Memref.isWhole_whole _)
    kM (Memref.isWhole_whole _) vM (Memref.isWhole_whole _) cc0_scratch7 cc0_scratch8 cc0_scratch9 cc0_scratch10 cc0_scratch11 cc0_scratch12
    cc0_scoped0 c v2 v7 k ⟨⟩

/-! ## The heads side by side -/

theorem tile_inb (b : Fin 2) (h : Fin 8) : ∀ a, (![128 * b.val, 64 * h.val] : Fin 2 → ℕ) a + S128x64.size a ≤ S256x512.size a := by
  have : b.val < 2 := b.isLt
  have : h.val < 8 := h.isLt
  intro a; fin_cases a
  · show 128 * b.val + 128 ≤ 256; omega
  · show 64 * h.val + 64 ≤ 512; omega
theorem kv_inb (b : Fin 2) (h : Fin 8) : ∀ a, (![b.val, 0, h.val, 0] : Fin 4 → ℕ) a + S1x128x1x64.size a ≤ S2x128x8x64.size a := by
  have : b.val < 2 := b.isLt
  have : h.val < 8 := h.isLt
  intro a; fin_cases a
  · show b.val + 1 ≤ 2; omega
  · show 0 + 128 ≤ 128; omega
  · show h.val + 1 ≤ 8; omega
  · show 0 + 64 ≤ 64; omega
theorem tile_slices (b : Fin 2) (h : Fin 8) : S256x512.Slices ![128 * b.val, 64 * h.val] S128x64 := by
  revert b h; decide

/-- Head `h` of batch row `b` of a block, from the block's queries and its keys and values. -/
def tile (q : FVec F S256x512 .f32) (kb vb : Vec F S2x128x8x64 .f32) (b : Fin 2) (h : Fin 8) : FVec F S128x64 .f32 :=
  head (extractStridedSlice S128x64 ![128 * b.val, 64 * h.val] q (tile_slices b h))
    (shapeCast S128x64 (kM.view.readAt (Elt F) (Rect.unit (s := S2x128x8x64) ![b.val, 0, h.val, 0] S1x128x1x64.size (kv_inb b h)).toLoadRect kb) shapeCasts_S1x128x1x64_S128x64)
    (shapeCast S128x64 (vM.view.readAt (Elt F) (Rect.unit (s := S2x128x8x64) ![b.val, 0, h.val, 0] S1x128x1x64.size (kv_inb b h)).toLoadRect vb) shapeCasts_S1x128x1x64_S128x64)

/-- All heads of a block side by side. -/
def heads (q : FVec F S256x512 .f32) (kb vb : Vec F S2x128x8x64 .f32) : Vec F S256x512 .f32 := fun i =>
  tile q kb vb ⟨(i 0).val / 128, by have : (i 0).val < 256 := (i 0).isLt; omega⟩ ⟨(i 1).val / 64, by have : (i 1).val < 512 := (i 1).isLt; omega⟩
    (ix2 ⟨(i 0).val % 128, Nat.mod_lt _ (by decide)⟩ ⟨(i 1).val % 64, Nat.mod_lt _ (by decide)⟩)

theorem heads_apply (q : FVec F S256x512 .f32) (kb vb : Vec F S2x128x8x64 .f32) (b : Fin 2) (h : Fin 8) (x : S128x64.Idx) (i : S256x512.Idx)
    (h0 : (i 0).val = 128 * b.val + (x 0).val) (h1 : (i 1).val = 64 * h.val + (x 1).val) : heads q kb vb i = tile q kb vb b h x := by
  have hx0 : (x 0).val < 128 := (x 0).isLt
  have hx1 : (x 1).val < 64 := (x 1).isLt
  have hb : (⟨(i 0).val / 128, by have : (i 0).val < 256 := (i 0).isLt; omega⟩ : Fin 2) = b := Fin.ext (by show (i 0).val / 128 = b.val; omega)
  have hh : (⟨(i 1).val / 64, by have : (i 1).val < 512 := (i 1).isLt; omega⟩ : Fin 8) = h := Fin.ext (by show (i 1).val / 64 = h.val; omega)
  have h0' : (⟨(i 0).val % 128, Nat.mod_lt _ (by decide)⟩ : Fin 128) = x 0 := Fin.ext (by show (i 0).val % 128 = (x 0).val; omega)
  have h1' : (⟨(i 1).val % 64, Nat.mod_lt _ (by decide)⟩ : Fin 64) = x 1 := Fin.ext (by show (i 1).val % 64 = (x 1).val; omega)
  unfold heads
  rw [hb, hh, h0', h1']
  exact congrArg (tile q kb vb b h) (ix2_eta x)

/-- The order the loop's body stores the heads in, last first. -/
def order : List (Fin 2 × Fin 8) := ((List.finRange 2).flatMap fun b => (List.finRange 8).map fun h => (b, h)).reverse

theorem mem_order : ∀ p : Fin 2 × Fin 8, p ∈ order := by decide

/-- The stores the body makes into the heads' buffer. -/
def pieces (q : FVec F S256x512 .f32) (kb vb : Vec F S2x128x8x64 .f32) : List (View.Piece (Elt F) S256x512 .f32) :=
  order.map fun p => ⟨Rect.unit (s := S256x512) ![128 * p.1.val, 64 * p.2.val] S128x64.size (tile_inb p.1 p.2), tile q kb vb p.1 p.2⟩

theorem read_pieces (q : FVec F S256x512 .f32) (kb vb : Vec F S2x128x8x64 .f32) (f : Vec F S256x512 .f32) :
    oM.view.read (Elt F) (oM.view.writes (Elt F) f (pieces q kb vb)) = heads q kb vb := by
  funext y
  refine oM.view.read_writes_apply_of_pieces f (heads q kb vb) (pieces q kb vb) ?_ y ?_
  · intro p hp x
    obtain ⟨⟨b, h⟩, -, rfl⟩ := List.mem_map.mp hp
    refine (heads_apply q kb vb b h x _ ?_ ?_).symm
    · show 128 * b.val + 1 * (x 0).val = _; rw [Nat.one_mul]
    · show 64 * h.val + 1 * (x 1).val = _; rw [Nat.one_mul]
  · have hy0 : (y 0).val < 256 := (y 0).isLt
    have hy1 : (y 1).val < 512 := (y 1).isLt
    refine ⟨_, List.mem_map.mpr ⟨(⟨(y 0).val / 128, by omega⟩, ⟨(y 1).val / 64, by omega⟩), mem_order _, rfl⟩, ?_⟩
    refine (Rect.mem_set_unit (inb := tile_inb ⟨(y 0).val / 128, by omega⟩ ⟨(y 1).val / 64, by omega⟩)).mpr fun a => ?_
    fin_cases a
    · show 128 * ((y 0).val / 128) ≤ (y 0).val ∧ (y 0).val < 128 * ((y 0).val / 128) + 128; omega
    · show 64 * ((y 1).val / 64) ≤ (y 1).val ∧ (y 1).val < 64 * ((y 1).val / 64) + 64; omega

/-- Block `k`'s keys (or values) of the heads of device `c`. -/
def kvBlk (K : Vec F S32x128x128x64 .f32) (c k : Dev nD) : Vec F S2x128x8x64 .f32 := fun i =>
  K (ix4 ⟨2 * k.val + (i 0).val, by have : k.val < 16 := k.isLt; have : (i 0).val < 2 := (i 0).isLt; omega⟩ (i 1)
    ⟨8 * c.val + (i 2).val, by have : c.val < 16 := c.isLt; have : (i 2).val < 8 := (i 2).isLt; omega⟩ (i 3))

theorem trips_eq : k0_t1_loop.trips = 16 := by decide

/-- A trip as a block number. -/
def tk (k : Fin k0_t1_loop.trips) : Dev nD := ⟨k.val, Nat.lt_of_lt_of_le k.isLt k0_t1_abs.2.1⟩

/-- Block `k`'s share, on device `c`, of what the devices add up. -/
def part (Wq Wo : Vec F S512x512 .f32) (K V : Vec F S32x128x128x64 .f32) (X : Dev nD → Vec F S256x512 .f32) (c k : Dev nD) : Vec F S256x512 .f32 :=
  k0_pay40 (heads (k0_pay2 (X k) Wq) (kvBlk K c k) (kvBlk V c k)) Wo

/-! ## One trip -/

/-- The contents `f` of the partial products with the first `n` blocks made. -/
def Made (g : Dev nD → Vec F S256x512 .f32) (n : ℕ) (f : Vec F S4096x512 .f32) : Prop := ∀ i : S4096x512.Idx, (i 0).val < 256 * n → f i = blocks g i

/-- What a device holds between two trips, `n` blocks made. -/
def LoopSt (c : Dev nD) (O : CellTallies nD τ sig Unit) (Wq Wo : Vec F S512x512 .f32) (Ka Va : Vec F S32x128x128x64 .f32)
    (X : Dev nD → Vec F S256x512 .f32) (n : ℕ) : sProp 𝕄 :=
  iprop((wqM.view.loc (c : Thread nD τ) ↦{fullShare} Wq) ∗ (woM.view.loc (c : Thread nD τ) ↦{fullShare} Wo) ∗ (xM.view.loc (c : Thread nD τ) ↦{fullShare} (blocks X : Vec F S4096x512 .f32))
        ∗ ((Memref.whole main_arg3).view.loc (c : Thread nD τ) ↦{fullShare} Ka) ∗ ((Memref.whole main_arg4).view.loc (c : Thread nD τ) ↦{fullShare} Va)
        ∗ (∃ fp : Vec F S4096x512 .f32, ⌜Made (part Wq Wo Ka Va X c) n fp⌝ ∗ (pM.view.loc (c : Thread nD τ) ↦{fullShare} fp))
        ∗ (∃ fo : Vec F S256x512 .f32, (oM.view.loc (c : Thread nD τ) ↦{fullShare} fo))
        ∗ (∃ fk : Vec F S2x128x8x64 .f32, (kM.view.loc (c : Thread nD τ) ↦{fullShare} fk)) ∗ (∃ fv : Vec F S2x128x8x64 .f32, (vM.view.loc (c : Thread nD τ) ↦{fullShare} fv))
        ∗ semVal ((c : Thread nD τ), SemLoc.dma cc0_scratch11.sem) 0 ∗ semVal ((c : Thread nD τ), SemLoc.dma cc0_scratch12.sem) 0
        ∗ (∃ W : Waits sig Unit, owes (c : Thread nD τ) O W))

/-- Storing block `n` makes one block more. -/
theorem made_succ (g : Dev nD → Vec F S256x512 .f32) (k : Dev nD) (off : Fin 2 → ℕ) (h : ∀ a, off a + S256x512.size a ≤ S4096x512.size a) (ho : off = ![256 * k.val, 0])
    (f : Vec F S4096x512 .f32) (w : Vec F S256x512 .f32) (hw : w = g k) (hf : Made g k.val f) :
    Made g (k.val + 1) (pM.view.writes (Elt F) f [⟨Rect.unit (s := S4096x512) off S256x512.size h, w⟩]) := by
  intro i hi
  subst hw
  have hr : ∀ G : Vec F S4096x512 .f32, pM.view.read (Elt F) G i = G i := fun _ => rfl
  by_cases hm : i ∈ (Rect.unit (s := S4096x512) off S256x512.size h).set
  · have e : pM.view.read (Elt F) (pM.view.writes (Elt F) f [⟨Rect.unit (s := S4096x512) off S256x512.size h, g k⟩]) i = blocks g i := by
      refine pM.view.read_writes_apply_of_pieces f (blocks g) [⟨Rect.unit (s := S4096x512) off S256x512.size h, g k⟩] ?_ i ⟨_, List.mem_singleton.mpr rfl, hm⟩
      intro p hp x
      obtain rfl := List.mem_singleton.mp hp
      subst ho
      refine (blocks_apply g k x _ ?_ ?_).symm
      · show 256 * k.val + 1 * (x 0).val = _; rw [Nat.one_mul]
      · show 0 + 1 * (x 1).val = _; rw [Nat.one_mul, Nat.zero_add]
    exact (hr _).symm.trans e
  · have e : pM.view.writes (Elt F) f [⟨Rect.unit (s := S4096x512) off S256x512.size h, g k⟩] i = f i :=
      (hr _).symm.trans <| View.read_writes_apply_of_forall_not_mem pM.view f i [⟨Rect.unit (s := S4096x512) off S256x512.size h, g k⟩] (by
        intro p hp; rw [List.mem_singleton.mp hp]; exact hm)
    rw [e]
    refine hf i (by_contra fun hlt => hm ?_)
    refine (Rect.mem_set_unit (inb := h)).mpr fun a => ?_
    subst ho
    have h1 : (i 1).val < 512 := (i 1).isLt
    fin_cases a
    · show 256 * k.val ≤ (i 0).val ∧ (i 0).val < 256 * k.val + 256; omega
    · show 0 ≤ (i 1).val ∧ (i 1).val < 0 + 512; omega

theorem read_xall (g : Dev nD → Vec F S256x512 .f32) (k : Dev nD) (off : Fin 2 → ℕ) (h) (ho : off = ![256 * k.val, 0]) :
    xM.view.readAt (Elt F) (Rect.unit (s := S4096x512) off S256x512.size h).toLoadRect (blocks g) = g k :=
  read_blocks g k off h ho

theorem trip (c : Dev nD) (v2 v7 : BitVec 32) (k : Fin k0_t1_loop.trips) (O : CellTallies nD τ sig Unit)
    (hmk : (levAts L lv : sProp 𝕄) ⊢ (MayWait (c : Thread nD τ) (.dma cc0_scratch11.sem) () O : sProp 𝕄))
    (hmv : (levAts L lv : sProp 𝕄) ⊢ (MayWait (c : Thread nD τ) (.dma cc0_scratch12.sem) () O : sProp 𝕄))
    (Xa : Vec F S4096x512 .f32) (Wq Wo : Vec F S512x512 .f32) (Ka Va : Vec F S32x128x128x64 .f32)
    (X : Dev nD → Vec F S256x512 .f32) (hX : Xa = blocks X) (fp : Vec F S4096x512 .f32) (hfp : Made (part Wq Wo Ka Va X c) k.val fp) (fo : Vec F S256x512 .f32) (fk fv : Vec F S2x128x8x64 .f32) (W : Waits sig Unit) :
    iprop(levAts L lv ∗ (wqM.view.loc (c : Thread nD τ) ↦{fullShare} Wq) ∗ (woM.view.loc (c : Thread nD τ) ↦{fullShare} Wo) ∗ (xM.view.loc (c : Thread nD τ) ↦{fullShare} Xa)
        ∗ ((Memref.whole main_arg3).view.loc (c : Thread nD τ) ↦{fullShare} Ka) ∗ ((Memref.whole main_arg4).view.loc (c : Thread nD τ) ↦{fullShare} Va)
        ∗ (pM.view.loc (c : Thread nD τ) ↦{fullShare} fp) ∗ (oM.view.loc (c : Thread nD τ) ↦{fullShare} fo)
        ∗ (kM.view.loc (c : Thread nD τ) ↦{fullShare} fk) ∗ (vM.view.loc (c : Thread nD τ) ↦{fullShare} fv)
        ∗ semVal ((c : Thread nD τ), SemLoc.dma cc0_scratch11.sem) 0 ∗ semVal ((c : Thread nD τ), SemLoc.dma cc0_scratch12.sem) 0
        ∗ owes (c : Thread nD τ) O W)
      ⊢ wp frame (wpE (defs₀ (F := F)) 𝒱₀ (c : Thread nD τ) none) Set.univ (tripBody c v2 v7 k)
          (fun _ => LoopSt c O Wq Wo Ka Va X (k.val + 1)) := by
  have hk : k.val < 16 := Nat.lt_of_lt_of_le k.isLt k0_t1_abs.2.1
  unfold tripBody k0_t1_body
  iintro ⟨#Hlev, Hq, Hw, HX, HK, HV, HP, Ho, Hk, Hv, Hsk, Hsv, HO⟩
  sl_exec
  sl_step
  have e : trip.sl.Ho_16 c k Xa Wq Ka Va fk fv = pieces (trip.sl.r k Xa Wq) (trip.sl.dma0 c k Ka) (trip.sl.dma0_1 c k Va) := by
    unfold trip.sl.Ho_16
    have hk' : kM.view.write (Elt F) fk (trip.sl.dma0 c k Ka) Finset.univ = trip.sl.dma0 c k Ka := View.write_whole_univ _ _ _
    have hv' : vM.view.write (Elt F) fv (trip.sl.dma0_1 c k Va) Finset.univ = trip.sl.dma0_1 c k Va := View.write_whole_univ _ _ _
    unfold trip.sl.r_1 trip.sl.r_2 trip.sl.r_3 trip.sl.r_4 trip.sl.r_5 trip.sl.r_6 trip.sl.r_7 trip.sl.r_8 trip.sl.r_9 trip.sl.r_10
      trip.sl.r_11 trip.sl.r_12 trip.sl.r_13 trip.sl.r_14 trip.sl.r_15 trip.sl.r_16 trip.sl.r_17 trip.sl.r_18 trip.sl.r_19 trip.sl.r_20
    rw [hk', hv']
    rfl
  have hq : trip.sl.r k Xa Wq = k0_pay2 (X (tk k)) Wq := by
    unfold trip.sl.r
    rw [hX]
    exact congrArg₂ k0_pay2 (read_xall X (tk k) (k0_off4 k) (k0_off4_inb k) (k0_off4_eq k)) (Memref.readAt_unit_zero (Elt F) cc0_stg1_0 (off := ![0, 0]) (funext fun a => by fin_cases a <;> rfl) inb_S512x512_S512x512_0_0 Wq)
  have hkb : trip.sl.dma0 c k Ka = kvBlk Ka c (tk k) := by
    unfold trip.sl.dma0
    funext i
    refine congrArg Ka (funext fun a => Fin.ext ?_)
    have ho := k0_off3_eq c k
    have h0 : k0_off3 c k 0 = 2 * k.val := congrFun ho 0
    have h1 : k0_off3 c k 1 = 0 := congrFun ho 1
    have h2 : k0_off3 c k 2 = 8 * c.val := congrFun ho 2
    have h3 : k0_off3 c k 3 = 0 := congrFun ho 3
    fin_cases a
    · show k0_off3 c k 0 + 1 * (i 0).val = 2 * k.val + (i 0).val; omega
    · show k0_off3 c k 1 + 1 * (i 1).val = (i 1).val; omega
    · show k0_off3 c k 2 + 1 * (i 2).val = 8 * c.val + (i 2).val; omega
    · show k0_off3 c k 3 + 1 * (i 3).val = (i 3).val; omega
  have hvb : trip.sl.dma0_1 c k Va = kvBlk Va c (tk k) := by
    unfold trip.sl.dma0_1
    funext i
    refine congrArg Va (funext fun a => Fin.ext ?_)
    have ho := k0_off3_eq c k
    have h0 : k0_off3 c k 0 = 2 * k.val := congrFun ho 0
    have h1 : k0_off3 c k 1 = 0 := congrFun ho 1
    have h2 : k0_off3 c k 2 = 8 * c.val := congrFun ho 2
    have h3 : k0_off3 c k 3 = 0 := congrFun ho 3
    fin_cases a
    · show k0_off3 c k 0 + 1 * (i 0).val = 2 * k.val + (i 0).val; omega
    · show k0_off3 c k 1 + 1 * (i 1).val = (i 1).val; omega
    · show k0_off3 c k 2 + 1 * (i 2).val = 8 * c.val + (i 2).val; omega
    · show k0_off3 c k 3 + 1 * (i 3).val = (i 3).val; omega
  have hh : trip.sl.v1084 c k Xa Wq Ka Va fk fv = heads (k0_pay2 (X (tk k)) Wq) (kvBlk Ka c (tk k)) (kvBlk Va c (tk k)) := by
    unfold trip.sl.v1084
    rw [e, hq, hkb, hvb]
    exact (Memref.readAt_unit_zero (Elt F) cc0_scratch2 (off := ![0, 0]) (funext fun a => by fin_cases a <;> rfl) _ _).trans (read_pieces (k0_pay2 (X (tk k)) Wq) (kvBlk Ka c (tk k)) (kvBlk Va c (tk k)) oM.view.junk)
  rw [hh]
  unfold LoopSt
  isplitl [Hq]; · iexact Hq
  isplitl [Hw]; · iexact Hw
  isplitl [HX]; · rw [← hX]; iexact HX
  isplitl [HK]; · iexact HK
  isplitl [HV]; · iexact HV
  isplitl [HP]
  · iexists _
    isplitr [HP]
    · ipureintro
      exact made_succ (part Wq Wo Ka Va X c) (tk k) (k0_off4 k) (k0_off4_inb k) (k0_off4_eq k) fp _ (congrArg (k0_pay40 _) (Memref.readAt_unit_zero (Elt F) cc0_stg2_0 (off := ![0, 0]) (funext fun a => by fin_cases a <;> rfl) inb_S512x512_S512x512_0_0 Wo)) hfp
    · iexact HP
  isplitl [Ho]; · iexists _; iexact Ho
  isplitl [Hk]; · iexists _; iexact Hk
  isplitl [Hv]; · iexists _; iexact Hv
  isplitl [Hsk]; · iexact Hsk
  isplitl [Hsv]; · iexact Hsv
  iexists _; iexact HO

/-- The whole loop: from no block made to all sixteen. -/
theorem loop (c : Dev nD) (v2 v7 : BitVec 32) (O : CellTallies nD τ sig Unit)
    (hmk : (levAts L lv : sProp 𝕄) ⊢ (MayWait (c : Thread nD τ) (.dma cc0_scratch11.sem) () O : sProp 𝕄))
    (hmv : (levAts L lv : sProp 𝕄) ⊢ (MayWait (c : Thread nD τ) (.dma cc0_scratch12.sem) () O : sProp 𝕄))
    (Wq Wo : Vec F S512x512 .f32) (Ka Va : Vec F S32x128x128x64 .f32) (X : Dev nD → Vec F S256x512 .f32)
    {α : Type} (kt : Unit → Prog (TpuEff nD τ sig (Elt F) Λ₀ .tc) α) (Q : α → sProp 𝕄) :
    iprop(levAts L lv ∗ LoopSt c O Wq Wo Ka Va X 0)
      ⊢ iprop((LoopSt c O Wq Wo Ka Va X 16 -∗ wp frame (wpE (defs₀ (F := F)) 𝒱₀ (c : Thread nD τ) none) Set.univ (kt ⟨⟩) Q)
          -∗ wp frame (wpE (defs₀ (F := F)) 𝒱₀ (c : Thread nD τ) none) Set.univ
              ((Scf.Loop.for k0_t1_loop k0_t1_ok ⟨⟩ fun k _ => tripBody (F := F) c v2 v7 k).bind kt) Q) := by
  iintro ⟨#Hlev, HS⟩ Hk
  iapply (Scf.wp_for_bind frame (wpE (defs₀ (F := F)) 𝒱₀ (c : Thread nD τ) none) Set.univ _ _ _ k0_t1_ok ⟨⟩ (fun k _ => tripBody (F := F) c v2 v7 k)
    (fun n _ => iprop(levAts L lv ∗ LoopSt c O Wq Wo Ka Va X n)) (by
      intro k acc
      iintro ⟨#Hlev, HS⟩
      unfold LoopSt
      icases HS with ⟨Hq, Hw, HX, HK, HV, ⟨%fp, %hfp, HP⟩, ⟨%fo, Ho⟩, ⟨%fk, Hkk⟩, ⟨%fv, Hv⟩, Hsk, Hsv, ⟨%W, HO⟩⟩
      iapply (wp_wand_r frame (wpE (defs₀ (F := F)) 𝒱₀ (c : Thread nD τ) none) Set.univ)
      isplitl
      · iapply (trip c v2 v7 k O hmk hmv (blocks X) Wq Wo Ka Va X rfl fp hfp fo fk fv W)
        isplitr; · iexact Hlev
        isplitl [Hq]; · iexact Hq
        isplitl [Hw]; · iexact Hw
        isplitl [HX]; · iexact HX
        isplitl [HK]; · iexact HK
        isplitl [HV]; · iexact HV
        isplitl [HP]; · iexact HP
        isplitl [Ho]; · iexact Ho
        isplitl [Hkk]; · iexact Hkk
        isplitl [Hv]; · iexact Hv
        isplitl [Hsk]; · iexact Hsk
        isplitl [Hsv]; · iexact Hsv
        iexact HO
      · iintro %_ HS
        isplitr; · iexact Hlev
        unfold LoopSt
        iexact HS)) $$ [HS]
  · isplitr; · iexact Hlev
    iexact HS
  · iintro %_ ⟨-, HS⟩
    iapply Hk
    rw [show (Scf.trips _ _ _ : ℕ) = 16 from trips_eq]
    iexact HS

/-- All sixteen blocks made. -/
theorem made_all (g : Dev nD → Vec F S256x512 .f32) (f : Vec F S4096x512 .f32) (h : Made g 16 f) : f = blocks g :=
  funext fun i => h i (by have : (i 0).val < 4096 := (i 0).isLt; omega)

theorem made_none (g : Dev nD → Vec F S256x512 .f32) (f : Vec F S4096x512 .f32) : Made g 0 f := fun _ h => absurd h (by omega)

end Cert.RingAttn

end
-- ==== Proof.Body.lean ====
/-
The body of one device, from the state the launch leaves to the state the exit takes back: the entry barrier, the
device's own block stored, fifteen hops of the all-gather, the loop, fifteen hops of the reduce-scatter, the result
stored, the exit barrier, every cell closed.
-/
module

public import proofs.«01_k».proof.Proof.Loop
public import proofs.«01_k».proof.Proof.Gen.KernelIdeal.Points

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The gathered array as its device's own block and fifteen others -/

/-- The blocks counted backwards from `c`. -/
def bkE (c : Dev nD) : Fin 16 ≃ Dev nD where
  toFun k := bk c k.val
  invFun d := ⟨(c.val + 32 - d.val) % 16, Nat.mod_lt _ (by decide)⟩
  left_inv k := by
    have hc : c.val < 16 := c.isLt
    have hk : k.val < 16 := k.isLt
    refine Fin.ext ?_
    show (c.val + 32 - (c.val + 32 - k.val) % 16) % 16 = k.val
    omega
  right_inv d := by
    have hc : c.val < 16 := c.isLt
    have hd : d.val < 16 := d.isLt
    refine Fin.ext ?_
    show (c.val + 32 - (c.val + 32 - d.val) % 16) % 16 = d.val
    omega

omit [FloatOps F] in
theorem bk_first (c : Dev nD) (Φ : Dev nD → sProp 𝕄) :
    bigSep Finset.univ Φ = iprop(Φ (bk c 0) ∗ bigSep Finset.univ fun h : Fin 15 => Φ (bk c (h.val + 1))) := by
  rw [bigSep_univ_equiv (bkE c) Φ, bigSep_univ_at _ (0 : Fin 16),
    show (Finset.univ.erase (0 : Fin 16)) = Finset.univ.map (Fin.succEmb 15) from by decide, bigSep_map]
  rfl
omit [FloatOps F] in
theorem bk_last (c : Dev nD) (Φ : Dev nD → sProp 𝕄) :
    bigSep Finset.univ Φ = iprop(Φ (bk c 15) ∗ bigSep Finset.univ fun h : Fin 15 => Φ (bk c h.val)) := by
  rw [bigSep_univ_equiv (bkE c) Φ, bigSep_univ_at _ (15 : Fin 16),
    show (Finset.univ.erase (15 : Fin 16)) = Finset.univ.map Fin.castSuccEmb from by decide, bigSep_map]
  rfl

theorem cover_of {I B : Type} [Fintype I] [Fintype B] [DecidableEq I] (S : B → Finset I) (h : ∀ i, ∃ b, i ∈ S b) : Finset.univ.biUnion S = Finset.univ :=
  Finset.eq_univ_iff_forall.mpr fun i => let ⟨b, hb⟩ := h i; Finset.mem_biUnion.mpr ⟨b, Finset.mem_univ _, hb⟩

theorem xset_has (i : S4096x512.Idx) : ∃ k : Dev nD, i ∈ xset k :=
  ⟨⟨(i 0).val / 256, by have : (i 0).val < 4096 := (i 0).isLt; show _ < 16; omega⟩, (mem_xset _ i).mpr rfl⟩
theorem rset_has (i : S15x256x512.Idx) : ∃ h : Fin 15, i ∈ rset h := ⟨⟨(i 0).val, (i 0).isLt⟩, (mem_rset _ i).mpr rfl⟩

omit [FloatOps F] in
theorem xall_blocks (c : Dev nD) (f : Vec F S4096x512 .f32) :
    ((((c : Thread nD τ).loc cc0_scratch0) ↦{fullShare} f : sProp 𝕄)) = bigSep Finset.univ fun k : Dev nD => xPts c k f :=
  Ring.pointsTo_blocks (ℓ := (c : Thread nD τ).loc cc0_scratch0) xset xset_disj (cover_of xset xset_has) f

omit [FloatOps F] in
theorem rsbuf_blocks (c : Dev nD) (f : Vec F S15x256x512 .f32) :
    ((((c : Thread nD τ).loc cc0_scratch4) ↦{fullShare} f : sProp 𝕄)) = bigSep Finset.univ fun h : Fin 15 => rPts c h f :=
  Ring.pointsTo_blocks (ℓ := (c : Thread nD τ).loc cc0_scratch4) rset rset_disj (cover_of rset rset_has) f

omit [FloatOps F] in
theorem any_x (c k : Dev nD) (f : Vec F S4096x512 .f32) : (xPts c k f : sProp 𝕄) ⊢ iprop(∃ f, xPts c k f) := by
  iintro H; iexists f; iexact H
omit [FloatOps F] in
theorem any_r (c : Dev nD) (h : Fin 15) (f : Vec F S15x256x512 .f32) : (rPts c h f : sProp 𝕄) ⊢ iprop(∃ f, rPts c h f) := by
  iintro H; iexists f; iexact H

omit [FloatOps F] in
theorem any_xs (c : Dev nD) (f : Vec F S4096x512 .f32) :
    (bigSep Finset.univ fun h : Fin 15 => (xPts c (bk c (h.val + 1)) f : sProp 𝕄)) ⊢ bigSep Finset.univ fun h : Fin 15 => iprop(∃ f, xPts (F := F) c (bk c (h.val + 1)) f) :=
  bigSep_mono fun h _ => any_x c _ f
omit [FloatOps F] in
theorem any_rs (c : Dev nD) (g : Vec F S15x256x512 .f32) :
    (bigSep Finset.univ fun h : Fin 15 => (rPts c h g : sProp 𝕄)) ⊢ bigSep Finset.univ fun h : Fin 15 => iprop(∃ f, rPts (F := F) c h f) :=
  bigSep_mono fun h _ => any_r c h g

omit [FloatOps F] in
/-- What device `c` hands `prv c` at the entry barrier, and what it keeps of its gathered array: its own block. -/
theorem bar_split (c : Dev nD) (f : Vec F S4096x512 .f32) (g : Vec F S15x256x512 .f32) :
    (iprop((((c : Thread nD τ).loc cc0_scratch0) ↦{fullShare} f) ∗ (((c : Thread nD τ).loc cc0_scratch4) ↦{fullShare} g)) : sProp 𝕄)
      ⊢ iprop(xPts c (bk c 0) f ∗ barPay (prv c)) := by
  rw [xall_blocks, rsbuf_blocks, bk_first c]
  unfold barPay
  rw [nxt_prv]
  rw [show (bigSep Finset.univ fun h : Fin 15 => iprop(∃ f, xPts c (bk (prv c) h.val) f))
      = (bigSep Finset.univ fun h : Fin 15 => iprop(∃ f, xPts (F := F) c (bk c (h.val + 1)) f)) from
    bigSep_congr fun h _ => by rw [bk_prv c h.val (by have : h.val < 15 := h.isLt; omega)]]
  iintro ⟨⟨H0, H1⟩, Hr⟩
  isplitl [H0]; · iexact H0
  isplitl [H1]
  · iapply (any_xs c f) $$ H1
  iapply (any_rs c g) $$ Hr

omit [FloatOps F] in
theorem rsbuf_join (c : Dev nD) (f₀ : Vec F S15x256x512 .f32) :
    (bigSep Finset.univ fun h : Fin 15 => iprop(∃ f, rPts (F := F) c h f)) ⊢ iprop(∃ g : Vec F S15x256x512 .f32, ((c : Thread nD τ).loc cc0_scratch4) ↦{fullShare} g) :=
  Ring.pointsTo_blocks_join_exists (ℓ := (c : Thread nD τ).loc cc0_scratch4) rset rset_disj (cover_of rset rset_has) f₀

/-! ## What a device holds before and after its body -/

def agLin (c : Dev nD) (h : Fin 15) : sProp 𝕄 :=
  iprop(dutyTok ER (cell (nxt c) (kAgR h)) 0 false ∗ dutyTok ER (cell c kAgS) h.val false ∗ atPos ER (cell c (kAgR h)) 0 ∅ 0)
def rsLin (c : Dev nD) (h : Fin 15) : sProp 𝕄 :=
  iprop(dutyTok ER (cell (nxt c) (kRsR h)) 0 false ∗ dutyTok ER (cell c kRsS) h.val false ∗ atPos ER (cell c (kRsR h)) 0 ∅ 0)

/-- The tokens device `c` pays with and its positions at its own cells. -/
def linear (c : Dev nD) : sProp 𝕄 :=
  iprop(dutyTok ER (cell (prv c) kBar) 0 true ∗ dutyTok ER (cell (nxt c) kBar) 0 false
    ∗ dutyTok ER (cell (prv c) kBar2) 0 true ∗ dutyTok ER (cell (nxt c) kBar2) 0 false
    ∗ atPos ER (cell c kBar) 0 ∅ 0 ∗ atPos ER (cell c kBar2) 0 ∅ 0 ∗ atPos ER (cell c kAgS) 0 ∅ 0 ∗ atPos ER (cell c kRsS) 0 ∅ 0
    ∗ (bigSep Finset.univ (agLin (F := F) c)) ∗ (bigSep Finset.univ (rsLin (F := F) c)))

/-- The credits of its own cells' waits. -/
def creds (c : Dev nD) : sProp 𝕄 :=
  iprop(cred (tallyAt (cell c kBar) () 2) ∗ cred (tallyAt (cell c kBar2) () 2)
    ∗ (bigSep Finset.univ fun h : Fin 15 => cred (tallyAt (cell c (kAgR h)) () NA))
    ∗ (bigSep Finset.univ fun h : Fin 15 => cred (tallyAt (cell c (kRsR h)) () NR)))

/-- Its scratch buffers, at any contents. -/
def scratch (c : Dev nD) : sProp 𝕄 :=
  iprop((∃ f : Vec F S4096x512 .f32, ((c : Thread nD τ).loc cc0_scratch0) ↦{fullShare} f) ∗ (∃ f : Vec F S4096x512 .f32, ((c : Thread nD τ).loc cc0_scratch1) ↦{fullShare} f)
    ∗ (∃ f : Vec F S256x512 .f32, ((c : Thread nD τ).loc cc0_scratch2) ↦{fullShare} f) ∗ (∃ f : Vec F S256x512 .f32, ((c : Thread nD τ).loc cc0_scratch3) ↦{fullShare} f)
    ∗ (∃ f : Vec F S15x256x512 .f32, ((c : Thread nD τ).loc cc0_scratch4) ↦{fullShare} f) ∗ (∃ f : Vec F S2x128x8x64 .f32, ((c : Thread nD τ).loc cc0_scratch5) ↦{fullShare} f)
    ∗ (∃ f : Vec F S2x128x8x64 .f32, ((c : Thread nD τ).loc cc0_scratch6) ↦{fullShare} f))

/-- The two semaphores of the loop's own copies. -/
def kvSems (c : Dev nD) : sProp 𝕄 := iprop(semVal ((c : Thread nD τ), SemLoc.dma cc0_scratch11.sem) 0 ∗ semVal ((c : Thread nD τ), SemLoc.dma cc0_scratch12.sem) 0)

/-- The keys and the values. -/
def kvArr (c : Dev nD) (Ka Va : Vec F S32x128x128x64 .f32) : sProp 𝕄 :=
  iprop((((c : Thread nD τ).loc main_arg3) ↦{fullShare} Ka) ∗ (((c : Thread nD τ).loc main_arg4) ↦{fullShare} Va))

/-- Every cell of the ring closed. -/
def closed (c : Dev nD) : sProp 𝕄 :=
  iprop(semVal (cell c kBar) 0 ∗ semVal (cell c kBar2) 0 ∗ semVal (cell c kAgS) 0 ∗ semVal (cell c kRsS) 0
    ∗ (bigSep Finset.univ fun h : Fin 15 => semVal (cell c (kAgR h)) 0) ∗ (bigSep Finset.univ fun h : Fin 15 => semVal (cell c (kRsR h)) 0))

section

variable (X : Dev nD → Vec F S256x512 .f32) (T : Dev nD → Dev nD → Vec F S256x512 .f32)

/-- From the launch on: the ring's ghost state at some invariant names, the credits, the levels, the keys and values. -/
def start (c : Dev nD) (Ka Va : Vec F S32x128x128x64 .f32) : sProp 𝕄 :=
  iprop((∃ K, records X T K ∗ linear c) ∗ creds c ∗ levAts L lv ∗ kvArr c Ka Va)
def Φ₀ (c : Dev nD) (Ka Va : Vec F S32x128x128x64 .f32) : sProp 𝕄 := iprop(start X T c Ka Va ∗ scratch c ∗ kvSems c)
def Φ₁ (c : Dev nD) (Ka Va : Vec F S32x128x128x64 .f32) : sProp 𝕄 := iprop(kvArr c Ka Va ∗ scratch c ∗ kvSems c ∗ closed c)

/-- The result on device `c`. -/
def outV (c : Dev nD) : Vec F S2x128x512 .f32 := k0_pay1 (A T 14 (prv c)) (T c c)

/-- The four staging buffers. -/
def staged (c : Dev nD) (gx : Vec F S2x128x512 .f32) (gq go : Vec F S512x512 .f32) (r : Vec F S2x128x512 .f32) : sProp 𝕄 :=
  iprop((((c : Thread nD τ).loc cc0_stg0_0) ↦{fullShare} gx) ∗ (((c : Thread nD τ).loc cc0_stg1_0) ↦{fullShare} gq)
    ∗ (((c : Thread nD τ).loc cc0_stg2_0) ↦{fullShare} go) ∗ (((c : Thread nD τ).loc cc0_stg3_0) ↦{fullShare} r))

/-! ## Steps -/

variable (K : Dev nD × CK → ℕ)

/-- A signal to one of a neighbour's barriers. -/
theorem signal_bar (c n n' : Dev nD) (hn : n = n') (k : CK) (hk : k = kBar ∨ k = kBar2) (d : Bool) {s : Sem sig} (hs : csem k = .reg s) (O : CellTallies nD τ sig Unit)
    {α : Type} {Q : α → sProp 𝕄} {kt : PUnit → Prog (TpuEff nD τ sig (Elt F) Λ₀ .tc) α} (W : Waits sig Unit) :
    iprop(records X T K ∗ owes (c : Thread nD τ) (O + tallyAt (cell n' k) () 1) W ∗ dutyTok ER (cell n' k) 0 d ∗ pay X T n' k 0 d)
      ⊢ iprop((owes (c : Thread nD τ) O W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) s (1#32 : BitVec 32).toInt) kt) Q) := by
  subst hn
  have hg : ((n : Thread nD τ), SemLoc.reg s) = cell n k := by rw [← hs]
  have hd : d ∈ (ringRd (F := F) X T).duties ((n : Thread nD τ), SemLoc.reg s) 0 := by
    rw [hg, duties_cell]
    rcases hk with rfl | rfl <;> exact Finset.mem_univ _
  have ha : (ringRd (F := F) X T).amount ((n : Thread nD τ), SemLoc.reg s) 0 d = 1 := by
    rw [hg, amount_cell]
    rcases hk with rfl | rfl <;> rfl
  rw [show (1#32 : BitVec 32).toInt = ((1 : ℕ) : ℤ) by decide]
  iintro ⟨#HR, HO, Ht, Hp⟩ Hk
  iapply (Rounds.wp_signal 𝒱₀ ER (ringRd X T) (c : Thread nD τ) none (dst := (n : Thread nD τ)) (κ := K (n, k)) hd ha () O rfl) $$ [HO Ht Hp]
  · rw [hg, payload_cell]
    isplitr; · iapply (rec_inv X T K n k); iexact HR
    isplitl [HO]; · iexact HO
    isplitl [Ht]; · iexact Ht
    isplitl [Hp]; · iexact Hp
    iapply (rec_reached X T K n k); iexact HR
  iexact Hk

/-- The wait for both neighbours at one of its own barriers. -/
theorem wait_bar (c : Dev nD) (k : CK) (hk : k = kBar ∨ k = kBar2) {s : Sem sig} (hs : csem k = .reg s) (O : CellTallies nD τ sig Unit) (hO : Above (lvK k + 1) O)
    {α : Type} {Q : α → sProp 𝕄} {kt : PUnit → Prog (TpuEff nD τ sig (Elt F) Λ₀ .tc) α} (W : Waits sig Unit) :
    iprop(records X T K ∗ levAts L lv ∗ cred (tallyAt (cell c k) () 2) ∗ owes (c : Thread nD τ) O W ∗ atPos ER (cell c k) 0 ∅ 0)
      ⊢ iprop((((∃ W', owes (c : Thread nD τ) O W') ∗ semVal (cell c k) 0 ∗ pay X T c k 0 true)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait s (2#32 : BitVec 32).toInt) kt) Q) := by
  have hg : ((c : Thread nD τ), SemLoc.reg s) = cell c k := by rw [← hs]
  have hx : (ringRd (F := F) X T).expect (cell c k) 0 = 2 := by
    rw [expect_cell]; rcases hk with rfl | rfl <;> rfl
  have hrest : bigSep ((ringRd (F := F) X T).duties (cell c k) 0 \ ∅) (fun d => (ringRd (F := F) X T).payload (cell c k) 0 d)
      = iprop(pay X T c k 0 false ∗ pay X T c k 0 true) := by
    rw [rest_cell]
    rcases hk with rfl | rfl <;>
      exact bigSep_univ_eq_bigSepL [false, true] (by decide) (by decide) _
  have hlast : lastR k = 1 := by rcases hk with rfl | rfl <;> rfl
  rw [show (2#32 : BitVec 32).toInt = ((2 : ℕ) : ℤ) by decide]
  iintro ⟨#HR, #Hlev, Hc, HO, Hat⟩ Hk
  iapply (Rounds.wp_wait_rest_token 𝒱₀ ER (ringRd X T) (c : Thread nD τ) none (κ := K (c, k))
      (wpE_semWait_eq 𝒱₀ (c : Thread nD τ) none Set.univ) (Set.mem_univ _) () (O := O) (W := W) (R := 0) (m := 0) (T := ∅)
      (by rw [hg, hx])) $$ [Hc HO Hat]
  · rw [hg]
    isplitr; · iapply (rec_inv X T K c k); iexact HR
    isplitl [Hc]; · iexact Hc
    isplitl [HO]; · iexact HO
    isplitr
    · iapply (hO.mayWait c (.reg s) (by rw [hg, lv_cell]; exact Nat.lt_succ_self _)); iexact Hlev
    iexact Hat
  rw [hg, hrest]
  iintro ⟨HO, Hat, -, -, Hp⟩
  ihave Hcl := (close X T K c k)
  rw [hlast]
  imod Hcl $$ [Hat] with Hz
  · isplitr; · iexact HR
    iexact Hat
  iapply Hk
  isplitl [HO]; · iexists _; iexact HO
  isplitl [Hz] <;> iassumption

theorem ag (c n : Dev nD) (hn : n = nxt c) (i j : ℕ) (hi : i < 15) (hj : j = i + 1) {hsc : (xV c ⟨i, hi⟩).view.ref.isScScratch = false}
    {hsrc : (xV c ⟨i, hi⟩).view.WordExact} {hdst : (xV c ⟨i, hi⟩).view.WordExact}
    {hsem : DmaTarget.Typed .vmem (.dma (agQ ⟨i, hi⟩)) (.remote (Dev.tc n : Thread nD τ) (xV c ⟨i, hi⟩) (.dma cc0_scratch7.sem) hsc)}
    {h1 h2 h3 h4 : (xV c ⟨i, hi⟩).view.WordExact}
    {α : Type} {Q : α → sProp 𝕄} {kt : PUnit → Prog (TpuEff nD τ sig (Elt F) Λ₀ .tc) α} :
    iprop(records X T K ∗ levAts L lv ∗ AgSt X c i)
      ⊢ iprop((AgSt X c j -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xV c ⟨i, hi⟩) (.remote (Dev.tc n : Thread nD τ) (xV c ⟨i, hi⟩) (.dma cc0_scratch7.sem) hsc) (.dma (agQ ⟨i, hi⟩)) hsrc hdst hsem)
                fun _ => .op (.waitDma2 cc0_scratch7.sem (xV c ⟨i, hi⟩) (xV c ⟨i, hi⟩) h1 h2) fun _ => .op (.waitDma2 (agQ ⟨i, hi⟩) (xV c ⟨i, hi⟩) (xV c ⟨i, hi⟩) h3 h4) kt) Q) := by
  subst hj
  exact hop_ag X T K c n hn ⟨i, hi⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev33_eq (c : Dev nD) : (⟨k0_dev33 c, k0_dev33_lt c⟩ : Dev nD) = prv c := Fin.ext (k0_dev33_eq c)
theorem dev34_eq (c : Dev nD) : (⟨k0_dev34 c, k0_dev34_lt c⟩ : Dev nD) = nxt c := Fin.ext (k0_dev34_eq c)

/-- One hop of the reduce-scatter and the sum made after it. -/
theorem rs (c n : Dev nD) (hn : n = nxt c) (i j : ℕ) (hi : i < 14) (hj : j = i + 1) (payF : Vec F S1x256x512 .f32 → Vec F S256x512 .f32 → Vec F S256x512 .f32)
    (hp : payF = fun v w => addV (shapeCast S256x512 v shapeCasts_S1x256x512_S256x512) w) {hsc : (rV (Fin.castSucc ⟨i, hi⟩)).view.ref.isScScratch = false}
    {hsrc : aM.view.WordExact} {hdst : (rV (Fin.castSucc ⟨i, hi⟩)).view.WordExact}
    {hsem : DmaTarget.Typed .vmem (.dma (rsQ (Fin.castSucc ⟨i, hi⟩))) (.remote (Dev.tc n : Thread nD τ) (rV (Fin.castSucc ⟨i, hi⟩)) (.dma cc0_scratch8.sem) hsc)}
    {h1 : (rV (Fin.castSucc ⟨i, hi⟩)).view.WordExact} {h2 h3 : aM.view.WordExact} {h4 : (rV (Fin.castSucc ⟨i, hi⟩)).view.WordExact}
    {hl1 : rM.view.LoadsAt (rRect (Fin.castSucc ⟨i, hi⟩)).toLoadRect}
    {hl2 : pM.view.LoadsAt (Rect.unit (s := S4096x512) (k0_off6 c (BitVec.ofNat 32 i)) S256x512.size (k0_off6_inb c (Fin.castSucc ⟨i, hi⟩))).toLoadRect}
    {hin3 : ∀ a, (![0, 0] : Fin 2 → ℕ) a + S256x512.size a ≤ S256x512.size a}
    {hl3 : aM.view.LoadsAt (Rect.unit (s := S256x512) ![0, 0] S256x512.size hin3).toLoadRect}
    {hx : (aM.access (Rect.unit (s := S256x512) ![0, 0] S256x512.size hin3)).Stores Finset.univ} {hm}
    {α : Type} {Q : α → sProp 𝕄} {kt : PUnit → Prog (TpuEff nD τ sig (Elt F) Λ₀ .tc) α} :
    iprop(records X T K ∗ levAts L lv ∗ RsSt T c i ∗ pPts c (blocks (T c)))
      ⊢ iprop(((RsSt T c j ∗ pPts c (blocks (T c))) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma aM (.remote (Dev.tc n : Thread nD τ) (rV (Fin.castSucc ⟨i, hi⟩)) (.dma cc0_scratch8.sem) hsc) (.dma (rsQ (Fin.castSucc ⟨i, hi⟩))) hsrc hdst hsem)
                fun _ => .op (.waitDma2 cc0_scratch8.sem (rV (Fin.castSucc ⟨i, hi⟩)) aM h1 h2) fun _ => .op (.waitDma2 (rsQ (Fin.castSucc ⟨i, hi⟩)) aM (rV (Fin.castSucc ⟨i, hi⟩)) h3 h4) fun _ =>
                .op (.load rM (rRect (Fin.castSucc ⟨i, hi⟩)).toLoadRect hl1) fun v =>
                .op (.load pM (Rect.unit (s := S4096x512) (k0_off6 c (BitVec.ofNat 32 i)) S256x512.size (k0_off6_inb c (Fin.castSucc ⟨i, hi⟩))).toLoadRect hl2) fun w =>
                .op (.load aM (Rect.unit (s := S256x512) ![0, 0] S256x512.size hin3).toLoadRect hl3) fun _ =>
                .op (.store aM (Rect.unit (s := S256x512) ![0, 0] S256x512.size hin3) (payF v w) Finset.univ hx hm) kt) Q) := by
  subst hj
  iintro ⟨#HR, #Hlev, HS, Hp⟩ Hk
  iapply (hop_rs X T K c n hn (Fin.castSucc ⟨i, hi⟩)) $$ [HS]
  · isplitr; · iexact HR
    isplitr; · iexact Hlev
    iexact HS
  iintro HS
  iapply (tail_rs T c ⟨i, hi⟩ payF hp) $$ [HS Hp]
  · isplitl [HS] <;> iassumption
  iexact Hk

omit [FloatOps F] in
theorem hz2 : (![0, 0] : Fin 2 → ℕ) = fun _ => 0 := funext fun a => by fin_cases a <;> rfl
omit [FloatOps F] in
theorem hz3 : (![0, 0, 0] : Fin 3 → ℕ) = fun _ => 0 := funext fun a => by fin_cases a <;> rfl

theorem read_x (f : Vec F S2x128x512 .f32) :
    (Memref.whole cc0_stg0_0).view.readAt (Elt F) (Rect.unit (s := S2x128x512) ![0, 0, 0] S2x128x512.size inb_S2x128x512_S2x128x512_0_0_0).toLoadRect f = f :=
  Memref.readAt_unit_zero (Elt F) cc0_stg0_0 hz3 _ f
theorem write_out (f w : Vec F S2x128x512 .f32) :
    ((Memref.whole cc0_stg3_0).access (Rect.unit (s := S2x128x512) ![0, 0, 0] S2x128x512.size inb_S2x128x512_S2x128x512_0_0_0)).write (Elt F) f w Finset.univ = w :=
  Memref.write_access_unit_zero_univ (Elt F) cc0_stg3_0 hz3 _ f w

theorem xRect_set (c : Dev nD) : (xM.access (Rect.unit (s := S4096x512) (k0_off1 c) S256x512.size (k0_off1_inb c))).set = xset (bk c 0) :=
  set_xAt (bk c 0) (k0_off1 c) (k0_off1_inb c) (by rw [k0_off1_eq, bk_zero])
theorem xRect_sub (c : Dev nD) : xM.view.setOn (Rect.unit (s := S4096x512) (k0_off1 c) S256x512.size (k0_off1_inb c)).toLoadRect.set ⊆ xset (bk c 0) :=
  Memref.setOn_subset_of_access_subset (c := ((0 : Dev nD) : Thread nD τ)) (subset_of_eq (xRect_set c))

/-- The device's own block stored where it belongs. -/
theorem own_stored (c : Dev nD) (f : Vec F S4096x512 .f32) :
    ((xM.access (Rect.unit (s := S4096x512) (k0_off1 c) S256x512.size (k0_off1_inb c))).loc (c : Thread nD τ)
        ↦[xset (bk c 0)]{fullShare} ((xM.access (Rect.unit (s := S4096x512) (k0_off1 c) S256x512.size (k0_off1_inb c))).write (Elt F) f (X c) Finset.univ) : sProp 𝕄)
      = xPts c (bk c 0) (blocks X) := by
  unfold xPts
  refine pointsTo_congr fun i hi => ?_
  have h := write_blocks X (bk c 0) (k0_off1 c) (k0_off1_inb c) (by rw [k0_off1_eq, bk_zero]) f i
    (by rw [set_xAt (bk c 0) (k0_off1 c) (k0_off1_inb c) (by rw [k0_off1_eq, bk_zero])]; exact hi)
  rw [bk_zero] at h
  exact h

/-- The running sum's first value stored. -/
theorem first_stored (c : Dev nD) (f : Vec F S256x512 .f32) :
    ((aM.access (Rect.unit (s := S256x512) ![0, 0] S256x512.size inb_S256x512_S256x512_0_0)).loc (c : Thread nD τ)
        ↦{fullShare} ((aM.access (Rect.unit (s := S256x512) ![0, 0] S256x512.size inb_S256x512_S256x512_0_0)).write (Elt F) f
          (k0_pay41 (pM.view.readAt (Elt F) (Rect.unit (s := S4096x512) (k0_off5 c) S256x512.size (k0_off5_inb c)).toLoadRect (blocks (T c)))) Finset.univ) : sProp 𝕄)
      = aPts c (A T 0 c) := by
  have hc : c.val < 16 := c.isLt
  rw [write_a, read_pacc (T c) (bk c 1) _ _ ((k0_off5_eq c).trans (by
    show (![256 * ((c.val + 15) % 16), 0] : Fin 2 → ℕ) = ![256 * ((c.val + 32 - 1) % 16), 0]
    rw [show (c.val + 32 - 1) % 16 = (c.val + 15) % 16 by omega]))]
  rfl

/-- The result stored. -/
theorem out_stored (c : Dev nD) (r : Vec F S2x128x512 .f32) (f : Vec F S15x256x512 .f32) (hf : (rV ⟨14, by decide⟩).view.read (Elt F) f = A T 14 (prv c)) :
    (((Memref.whole cc0_stg3_0).access (Rect.unit (s := S2x128x512) ![0, 0, 0] S2x128x512.size inb_S2x128x512_S2x128x512_0_0_0)).loc (c : Thread nD τ)
        ↦{fullShare} (((Memref.whole cc0_stg3_0).access (Rect.unit (s := S2x128x512) ![0, 0, 0] S2x128x512.size inb_S2x128x512_S2x128x512_0_0_0)).write (Elt F) r
          (k0_pay1 (k0_pay56 (rM.view.readAt (Elt F) (rRect ⟨14, by decide⟩).toLoadRect f))
            (pM.view.readAt (Elt F) (Rect.unit (s := S4096x512) (k0_off6 c 14#32) S256x512.size (k0_off6_inb c ⟨14, by decide⟩)).toLoadRect (blocks (T c)))) Finset.univ) : sProp 𝕄)
      = (((c : Thread nD τ).loc cc0_stg3_0) ↦{fullShare} outV T c) := by
  have hc : c.val < 16 := c.isLt
  rw [write_out, show k0_pay56 (rM.view.readAt (Elt F) (rRect ⟨14, by decide⟩).toLoadRect f) = A T 14 (prv c) from (read_rV ⟨14, by decide⟩ f).trans hf,
    read_pacc (T c) c _ _ ((show k0_off6 c 14#32 = _ from k0_off6_eq c ⟨14, by decide⟩).trans (by
      show (![256 * (((c.val + 46) - 14) % 16), 0] : Fin 2 → ℕ) = ![256 * c.val, 0]
      rw [show (c.val + 46) - 14 = c.val + 16 * 2 by omega, Nat.add_mul_mod_self_left, Nat.mod_eq_of_lt hc]))]
  rfl

theorem lv_of_none (c : Dev nD) {sm : SemLoc sig} (h : ∀ k, csem k ≠ sm) : lv ((c : Thread nD τ), sm) () = 0 := by
  show (role sm).elim 0 lvK = 0
  rw [role_none h]; rfl
theorem lv_k (c : Dev nD) : lv ((c : Thread nD τ), SemLoc.dma cc0_scratch11.sem) () = 0 :=
  lv_of_none c fun k h => (by decide : ∀ k, knum k ≠ 38) k (by rw [← cnum_csem, h]; rfl)
theorem lv_v (c : Dev nD) : lv ((c : Thread nD τ), SemLoc.dma cc0_scratch12.sem) () = 0 :=
  lv_of_none c fun k h => (by decide : ∀ k, knum k ≠ 39) k (by rw [← cnum_csem, h]; rfl)

/-- What a device holds of the all-gather before its first hop. -/
theorem ag_start (c : Dev nD) :
    iprop((bigSep Finset.univ (agLin (F := F) c)) ∗ (bigSep Finset.univ fun h : Fin 15 => cred (tallyAt (cell c (kAgR h)) () NA))
        ∗ (bigSep Finset.univ fun h : Fin 15 => iprop(∃ f, xPts (F := F) (nxt c) (bk c h.val) f)))
      ⊢ lad (agP c) (agQd X c) 0 := by
  have key : ∀ h : Fin 15, iprop(agLin c h ∗ cred (tallyAt (cell c (kAgR h)) () NA) ∗ iprop(∃ f, xPts (F := F) (nxt c) (bk c h.val) f)) ⊢ agP (F := F) c h := fun h => by
    unfold agLin agP
    iintro ⟨⟨H1, H2, H3⟩, H4, H5⟩
    isplitl [H1]; · iexact H1
    isplitl [H2]; · iexact H2
    isplitl [H3]; · iexact H3
    isplitl [H4] <;> iassumption
  rw [lad_zero, ← bigSep_sep', ← bigSep_sep']
  exact bigSep_mono fun h _ => key h
theorem rs_start (c : Dev nD) :
    iprop((bigSep Finset.univ (rsLin (F := F) c)) ∗ (bigSep Finset.univ fun h : Fin 15 => cred (tallyAt (cell c (kRsR h)) () NR))
        ∗ (bigSep Finset.univ fun h : Fin 15 => iprop(∃ f, rPts (F := F) (nxt c) h f)))
      ⊢ lad (rsP c) (rsQd (F := F) c) 0 := by
  have key : ∀ h : Fin 15, iprop(rsLin c h ∗ cred (tallyAt (cell c (kRsR h)) () NR) ∗ iprop(∃ f, rPts (F := F) (nxt c) h f)) ⊢ rsP (F := F) c h := fun h => by
    unfold rsLin rsP
    iintro ⟨⟨H1, H2, H3⟩, H4, H5⟩
    isplitl [H1]; · iexact H1
    isplitl [H2]; · iexact H2
    isplitl [H3]; · iexact H3
    isplitl [H4] <;> iassumption
  rw [lad_zero, ← bigSep_sep', ← bigSep_sep']
  exact bigSep_mono fun h _ => key h

/-- The gathered array whole, and the all-gather's cells closed. -/
theorem ag_done (c : Dev nD) :
    iprop(lad (agP c) (agQd X c) 15 ∗ xPts c (bk c 15) (blocks X))
      ⊢ iprop((((c : Thread nD τ).loc cc0_scratch0) ↦{fullShare} (blocks X : Vec F S4096x512 .f32)) ∗ bigSep Finset.univ fun h : Fin 15 => semVal (cell c (kAgR h)) 0) := by
  rw [lad_end, xall_blocks, bk_last c, show (bigSep Finset.univ (agQd X c)) = bigSep Finset.univ fun h : Fin 15 => iprop(xPts c (bk c h.val) (blocks X) ∗ semVal (cell c (kAgR h)) 0) from rfl,
    bigSep_sep']
  iintro ⟨⟨H1, H2⟩, H3⟩
  isplitr [H2]
  · isplitl [H3] <;> iassumption
  iexact H2
/-- The receive slots whole, and the reduce-scatter's cells closed. -/
theorem rs_done (c : Dev nD) (f₀ : Vec F S15x256x512 .f32) :
    lad (rsP c) (rsQd (F := F) c) 15
      ⊢ iprop((∃ g : Vec F S15x256x512 .f32, ((c : Thread nD τ).loc cc0_scratch4) ↦{fullShare} g) ∗ bigSep Finset.univ fun h : Fin 15 => semVal (cell c (kRsR h)) 0) := by
  rw [lad_end, show (bigSep Finset.univ (rsQd (F := F) c)) = bigSep Finset.univ fun h : Fin 15 => iprop((∃ f, rPts (F := F) c h f) ∗ semVal (cell c (kRsR h)) 0) from rfl, bigSep_sep']
  iintro ⟨H1, H2⟩
  ihave H := (rsbuf_join c f₀) $$ H1
  isplitl [H] <;> iassumption

set_option maxHeartbeats 4000000 in
theorem sound_body (c : Dev nD) (t : Fin cfg0.N) (gx : Vec F S2x128x512 .f32) (gq go : Vec F S512x512 .f32) (Ka Va : Vec F S32x128x128x64 .f32)
    (hX : X c = k0_pay38 gx) (hT : T c = part gq go Ka Va X c) (r : Vec F S2x128x512 .f32) (W : Waits sig Unit) (Kt : PUnit → sProp 𝕄) :
    iprop(Φ₀ X T c Ka Va ∗ owes (c : Thread nD τ) (O₀ c) W ∗ staged c gx gq go r)
      ⊢ iprop(((Φ₁ c Ka Va ∗ (∃ W, owes (c : Thread nD τ) 0 W) ∗ staged c gx gq go (outV T c)) -∗ Kt ⟨⟩)
        -∗ wp frame (wpE (defs₀ (F := F)) 𝒱₀ (c : Thread nD τ) none) Set.univ (bodyAt0 t) Kt) := by
  unfold bodyAt0
  simp only [cc0_body_eq_skeleton]
  unfold cc0_body_skel
  simp only [k0_part37_eq_skeleton]
  unfold k0_part37_skel
  simp only [k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton, k0_part21_eq_skeleton,
    k0_part22_eq_skeleton, k0_part23_eq_skeleton, k0_part24_eq_skeleton, k0_part25_eq_skeleton, k0_part26_eq_skeleton, k0_part27_eq_skeleton,
    k0_part28_eq_skeleton, k0_part29_eq_skeleton, k0_part30_eq_skeleton, k0_part31_eq_skeleton, k0_part32_eq_skeleton, k0_part33_eq_skeleton,
    k0_part34_eq_skeleton, k0_part35_eq_skeleton, k0_part36_eq_skeleton]
  unfold k0_part11_skel k0_part12_skel k0_part13_skel k0_part14_skel k0_part15_skel k0_part16_skel k0_part17_skel k0_part18_skel k0_part19_skel
    k0_part20_skel k0_part21_skel k0_part22_skel k0_part23_skel k0_part24_skel k0_part25_skel k0_part26_skel k0_part27_skel k0_part28_skel
    k0_part29_skel k0_part30_skel k0_part31_skel k0_part32_skel k0_part33_skel k0_part34_skel k0_part35_skel k0_part36_skel
  simp only [semSignalWord, semWaitWord, Prog.lift, Prog.bind_assoc, Prog.bind_op, Prog.bind_ret, Prog.pure_eq_ret, wp_deviceId]
  unfold Φ₀ start linear creds kvArr scratch kvSems staged
  iintro ⟨⟨⟨⟨%K, #HR, HtBP, HtBN, HtXP, HtXN, HaB, HaX, HaA, HaS, HlA, HlS⟩, ⟨HcB, HcX, HcA, HcS⟩, #Hlev, HKa, HVa⟩,
    ⟨⟨%f0, Hx⟩, ⟨%f1, Hp⟩, ⟨%f2, Ho⟩, ⟨%f3, Ha⟩, ⟨%f4, Hr⟩, ⟨%f5, Hk5⟩, ⟨%f6, Hv6⟩⟩, HsK, HsV⟩, HO, Hgx, Hgq, Hgo, Hout⟩ Hk
  -- the entry barrier
  ihave Hpay := (bar_split c f0 f4) $$ [Hx Hr]
  · isplitl [Hx] <;> iassumption
  icases Hpay with ⟨Hx, Hpay⟩
  iapply (signal_bar X T K c _ (prv c) (dev1_eq c) kBar (.inl rfl) true rfl (OAg c 0 + tallyAt (cell (nxt c) kBar) () 1)) $$ [HO HtBP Hpay]
  · isplitr; · iexact HR
    isplitl [HO]; · iexact HO
    isplitl [HtBP]; · iexact HtBP
    rw [show pay X T (prv c) kBar 0 true = barPay (prv c) from rfl]; iexact Hpay
  iintro HO
  iapply (signal_bar X T K c _ (nxt c) (dev2_eq c) kBar (.inl rfl) false rfl (OAg c 0)) $$ [HO HtBN]
  · isplitr; · iexact HR
    isplitl [HO]; · iexact HO
    isplitl [HtBN]; · iexact HtBN
    rw [show pay X T (nxt c) kBar 0 false = iprop(emp) from rfl]; iempintro
  iintro HO
  iapply (wait_bar X T K c kBar (.inl rfl) rfl (OAg c 0) (OAg_above c 0 (by omega))) $$ [HcB HO HaB]
  · isplitr; · iexact HR
    isplitr; · iexact Hlev
    isplitl [HcB]; · iexact HcB
    isplitl [HO] <;> iassumption
  rw [show pay X T c kBar 0 true = barPay c from rfl]
  unfold barPay
  iintro ⟨⟨%W1, HO⟩, HzB, HbX, HbR⟩
  -- its own block
  iapply (wp_load 𝒱₀ (c : Thread nD τ) none Set.univ (m := Memref.whole cc0_stg0_0) (Finset.subset_univ _)) $$ Hgx; iintro Hgx
  rw [read_x]
  unfold xPts
  iapply (wp_load 𝒱₀ (c : Thread nD τ) none Set.univ (m := xM) (xRect_sub c)) $$ Hx; iintro Hx
  iapply (wp_store 𝒱₀ (c : Thread nD τ) none Set.univ (m := xM) (r := Rect.unit (s := S4096x512) (k0_off1 c) S256x512.size (k0_off1_inb c)) (Mk := Finset.univ)
    (subset_of_eq (xRect_set c))) $$ Hx; iintro Hx
  rw [← hX]
  ihave Hx := (Entails.of_eq (own_stored X c f0)) $$ Hx
  -- the all-gather
  ihave HL := (ag_start X c) $$ [HlA HcA HbX]
  · isplitl [HlA]; · iexact HlA
    isplitl [HcA]; · iexact HcA
    iexact HbX
  ihave HA : AgSt X c 0 $$ [HL Hx HaA HO]
  · unfold AgSt
    isplitl [HL]; · iexact HL
    isplitl [Hx]; · iexact Hx
    isplitl [HaA]; · iexact HaA
    isplitr; · iapply (rec_reached X T K c kAgS); iexact HR
    iexists W1; iexact HO
  iapply (ag X T K c ⟨k0_dev3 c, k0_dev3_lt c⟩ (Fin.ext (k0_dev3_eq c)) 0 1 (by decide) rfl) $$ [HA]
  · isplitr; · iexact HR
    isplitr; · iexact Hlev
    iexact HA
  iintro HA
  iapply (ag X T K c ⟨k0_dev4 c, k0_dev4_lt c⟩ (Fin.ext (k0_dev4_eq c)) 1 2 (by decide) rfl) $$ [HA]
  · isplitr; · iexact HR
    isplitr; · iexact Hlev
    iexact HA
  iintro HA
  iapply (ag X T K c ⟨k0_dev5 c, k0_dev5_lt c⟩ (Fin.ext (k0_dev5_eq c)) 2 3 (by decide) rfl) $$ [HA]
  · isplitr; · iexact HR
    isplitr; · iexact Hlev
    iexact HA
  iintro HA
  iapply (ag X T K c ⟨k0_dev6 c, k0_dev6_lt c⟩ (Fin.ext (k0_dev6_eq c)) 3 4 (by decide) rfl) $$ [HA]
  · isplitr; · iexact HR
    isplitr; · iexact Hlev
    iexact HA
  iintro HA
  iapply (ag X T K c ⟨k0_dev7 c, k0_dev7_lt c⟩ (Fin.ext (k0_dev7_eq c)) 4 5 (by decide) rfl) $$ [HA]
  · isplitr; · iexact HR
    isplitr; · iexact Hlev
    iexact HA
  iintro HA
  iapply (ag X T K c ⟨k0_dev8 c, k0_dev8_lt c⟩ (Fin.ext (k0_dev8_eq c)) 5 6 (by decide) rfl) $$ [HA]
  · isplitr; · iexact HR
    isplitr; · iexact Hlev
    iexact HA
  iintro HA
  iapply (ag X T K c ⟨k0_dev9 c, k0_dev9_lt c⟩ (Fin.ext (k0_dev9_eq c)) 6 7 (by decide) rfl) $$ [HA]
  · isplitr; · iexact HR
    isplitr; · iexact Hlev
    iexact HA
  iintro HA
  iapply (ag X T K c ⟨k0_dev10 c, k0_dev10_lt c⟩ (Fin.ext (k0_dev10_eq c)) 7 8 (by decide) rfl) $$ [HA]
  · isplitr; · iexact HR
    isplitr; · iexact Hlev
    iexact HA
  iintro HA
  iapply (ag X T K c ⟨k0_dev11 c, k0_dev11_lt c⟩ (Fin.ext (k0_dev11_eq c)) 8 9 (by decide) rfl) $$ [HA]
  · isplitr; · iexact HR
    isplitr; · iexact Hlev
    iexact HA
  iintro HA
  iapply (ag X T K c ⟨k0_dev12 c, k0_dev12_lt c⟩ (Fin.ext (k0_dev12_eq c)) 9 10 (by decide) rfl) $$ [HA]
  · isplitr; · iexact HR
    isplitr; · iexact Hlev
    iexact HA
  iintro HA
  iapply (ag X T K c ⟨k0_dev13 c, k0_dev13_lt c⟩ (Fin.ext (k0_dev13_eq c)) 10 11 (by decide) rfl) $$ [HA]
  · isplitr; · iexact HR
    isplitr; · iexact Hlev
    iexact HA
  iintro HA
  iapply (ag X T K c ⟨k0_dev14 c, k0_dev14_lt c⟩ (Fin.ext (k0_dev14_eq c)) 11 12 (by decide) rfl) $$ [HA]
  · isplitr; · iexact HR
    isplitr; · iexact Hlev
    iexact HA
  iintro HA
  iapply (ag X T K c ⟨k0_dev15 c, k0_dev15_lt c⟩ (Fin.ext (k0_dev15_eq c)) 12 13 (by decide) rfl) $$ [HA]
  · isplitr; · iexact HR
    isplitr; · iexact Hlev
    iexact HA
  iintro HA
  iapply (ag X T K c ⟨k0_dev16 c, k0_dev16_lt c⟩ (Fin.ext (k0_dev16_eq c)) 13 14 (by decide) rfl) $$ [HA]
  · isplitr; · iexact HR
    isplitr; · iexact Hlev
    iexact HA
  iintro HA
  iapply (ag X T K c ⟨k0_dev17 c, k0_dev17_lt c⟩ (Fin.ext (k0_dev17_eq c)) 14 15 (by decide) rfl) $$ [HA]
  · isplitr; · iexact HR
    isplitr; · iexact Hlev
    iexact HA
  iintro HA
  unfold AgSt
  icases HA with ⟨HL, Hx, HaA, -, %W2, HO⟩
  ihave HL := (ag_done X c) $$ [HL Hx]
  · isplitl [HL] <;> iassumption
  icases HL with ⟨Hx, HzA⟩
  ihave HO := (Entails.of_eq (congrArg (fun O => owes (c : Thread nD τ) O W2) (OAg_end c))) $$ HO
  -- the loop
  have hmk : (levAts L lv : sProp 𝕄) ⊢ (MayWait (c : Thread nD τ) (.dma cc0_scratch11.sem) () (ORs c 0) : sProp 𝕄) :=
    (ORs_above c 0 (by omega)).mayWait c _ (lt_of_eq_of_lt (lv_k c) (by omega))
  have hmv : (levAts L lv : sProp 𝕄) ⊢ (MayWait (c : Thread nD τ) (.dma cc0_scratch12.sem) () (ORs c 0) : sProp 𝕄) :=
    (ORs_above c 0 (by omega)).mayWait c _ (lt_of_eq_of_lt (lv_v c) (by omega))
  ihave HS : LoopSt c (ORs c 0) gq go Ka Va X 0 $$ [Hgq Hgo Hx HKa HVa Hp Ho Hk5 Hv6 HsK HsV HO]
  · unfold LoopSt
    isplitl [Hgq]; · iexact Hgq
    isplitl [Hgo]; · iexact Hgo
    isplitl [Hx]; · iexact Hx
    isplitl [HKa]; · iexact HKa
    isplitl [HVa]; · iexact HVa
    isplitl [Hp]
    · iexists f1
      isplitr; · ipureintro; exact made_none _ _
      iexact Hp
    isplitl [Ho]; · iexists f2; iexact Ho
    isplitl [Hk5]; · iexists f5; iexact Hk5
    isplitl [Hv6]; · iexists f6; iexact Hv6
    isplitl [HsK]; · iexact HsK
    isplitl [HsV]; · iexact HsV
    iexists W2; iexact HO
  iapply (loop c _ _ (ORs c 0) hmk hmv gq go Ka Va X) $$ [HS]
  · isplitr; · iexact Hlev
    iexact HS
  iintro HS
  unfold LoopSt
  icases HS with ⟨Hgq, Hgo, Hx, HKa, HVa, ⟨%fp, %hfp, Hp⟩, ⟨%fo, Ho⟩, ⟨%fk, Hk5⟩, ⟨%fv, Hv6⟩, HsK, HsV, ⟨%W3, HO⟩⟩
  have hfp' : fp = blocks (T c) := by rw [hT]; exact made_all _ fp hfp
  subst hfp'
  -- the running sum's first value
  iapply (wp_load 𝒱₀ (c : Thread nD τ) none Set.univ (m := pM) (Finset.subset_univ _)) $$ Hp; iintro Hp
  iapply (wp_load 𝒱₀ (c : Thread nD τ) none Set.univ (m := aM) (Finset.subset_univ _)) $$ Ha; iintro Ha
  iapply (wp_store 𝒱₀ (c : Thread nD τ) none Set.univ (m := aM) (r := Rect.unit (s := S256x512) ![0, 0] S256x512.size inb_S256x512_S256x512_0_0) (Mk := Finset.univ) (Finset.subset_univ _)) $$ Ha; iintro Ha
  ihave Ha := (Entails.of_eq (first_stored T c f3)) $$ Ha
  ihave HL := (rs_start c) $$ [HlS HcS HbR]
  · isplitl [HlS]; · iexact HlS
    isplitl [HcS]; · iexact HcS
    iexact HbR
  ihave HA : RsSt T c 0 $$ [HL Ha HaS HO]
  · unfold RsSt
    isplitl [HL]; · iexact HL
    isplitl [Ha]; · iexact Ha
    isplitl [HaS]; · iexact HaS
    isplitr; · iapply (rec_reached X T K c kRsS); iexact HR
    iexists W3; iexact HO
  ihave Hp : pPts c (blocks (T c)) $$ [Hp]
  · unfold pPts; iexact Hp
  -- the reduce-scatter
  iapply (rs X T K c ⟨k0_dev18 c, k0_dev18_lt c⟩ (Fin.ext (k0_dev18_eq c)) 0 1 (by decide) rfl k0_pay42 rfl) $$ [HA Hp]
  · isplitr; · iexact HR
    isplitr; · iexact Hlev
    isplitl [HA] <;> iassumption
  iintro ⟨HA, Hp⟩
  iapply (rs X T K c ⟨k0_dev19 c, k0_dev19_lt c⟩ (Fin.ext (k0_dev19_eq c)) 1 2 (by decide) rfl k0_pay43 rfl) $$ [HA Hp]
  · isplitr; · iexact HR
    isplitr; · iexact Hlev
    isplitl [HA] <;> iassumption
  iintro ⟨HA, Hp⟩
  iapply (rs X T K c ⟨k0_dev20 c, k0_dev20_lt c⟩ (Fin.ext (k0_dev20_eq c)) 2 3 (by decide) rfl k0_pay44 rfl) $$ [HA Hp]
  · isplitr; · iexact HR
    isplitr; · iexact Hlev
    isplitl [HA] <;> iassumption
  iintro ⟨HA, Hp⟩
  iapply (rs X T K c ⟨k0_dev21 c, k0_dev21_lt c⟩ (Fin.ext (k0_dev21_eq c)) 3 4 (by decide) rfl k0_pay45 rfl) $$ [HA Hp]
  · isplitr; · iexact HR
    isplitr; · iexact Hlev
    isplitl [HA] <;> iassumption
  iintro ⟨HA, Hp⟩
  iapply (rs X T K c ⟨k0_dev22 c, k0_dev22_lt c⟩ (Fin.ext (k0_dev22_eq c)) 4 5 (by decide) rfl k0_pay46 rfl) $$ [HA Hp]
  · isplitr; · iexact HR
    isplitr; · iexact Hlev
    isplitl [HA] <;> iassumption
  iintro ⟨HA, Hp⟩
  iapply (rs X T K c ⟨k0_dev23 c, k0_dev23_lt c⟩ (Fin.ext (k0_dev23_eq c)) 5 6 (by decide) rfl k0_pay47 rfl) $$ [HA Hp]
  · isplitr; · iexact HR
    isplitr; · iexact Hlev
    isplitl [HA] <;> iassumption
  iintro ⟨HA, Hp⟩
  iapply (rs X T K c ⟨k0_dev24 c, k0_dev24_lt c⟩ (Fin.ext (k0_dev24_eq c)) 6 7 (by decide) rfl k0_pay48 rfl) $$ [HA Hp]
  · isplitr; · iexact HR
    isplitr; · iexact Hlev
    isplitl [HA] <;> iassumption
  iintro ⟨HA, Hp⟩
  iapply (rs X T K c ⟨k0_dev25 c, k0_dev25_lt c⟩ (Fin.ext (k0_dev25_eq c)) 7 8 (by decide) rfl k0_pay49 rfl) $$ [HA Hp]
  · isplitr; · iexact HR
    isplitr; · iexact Hlev
    isplitl [HA] <;> iassumption
  iintro ⟨HA, Hp⟩
  iapply (rs X T K c ⟨k0_dev26 c, k0_dev26_lt c⟩ (Fin.ext (k0_dev26_eq c)) 8 9 (by decide) rfl k0_pay50 rfl) $$ [HA Hp]
  · isplitr; · iexact HR
    isplitr; · iexact Hlev
    isplitl [HA] <;> iassumption
  iintro ⟨HA, Hp⟩
  iapply (rs X T K c ⟨k0_dev27 c, k0_dev27_lt c⟩ (Fin.ext (k0_dev27_eq c)) 9 10 (by decide) rfl k0_pay51 rfl) $$ [HA Hp]
  · isplitr; · iexact HR
    isplitr; · iexact Hlev
    isplitl [HA] <;> iassumption
  iintro ⟨HA, Hp⟩
  iapply (rs X T K c ⟨k0_dev28 c, k0_dev28_lt c⟩ (Fin.ext (k0_dev28_eq c)) 10 11 (by decide) rfl k0_pay52 rfl) $$ [HA Hp]
  · isplitr; · iexact HR
    isplitr; · iexact Hlev
    isplitl [HA] <;> iassumption
  iintro ⟨HA, Hp⟩
  iapply (rs X T K c ⟨k0_dev29 c, k0_dev29_lt c⟩ (Fin.ext (k0_dev29_eq c)) 11 12 (by decide) rfl k0_pay53 rfl) $$ [HA Hp]
  · isplitr; · iexact HR
    isplitr; · iexact Hlev
    isplitl [HA] <;> iassumption
  iintro ⟨HA, Hp⟩
  iapply (rs X T K c ⟨k0_dev30 c, k0_dev30_lt c⟩ (Fin.ext (k0_dev30_eq c)) 12 13 (by decide) rfl k0_pay54 rfl) $$ [HA Hp]
  · isplitr; · iexact HR
    isplitr; · iexact Hlev
    isplitl [HA] <;> iassumption
  iintro ⟨HA, Hp⟩
  iapply (rs X T K c ⟨k0_dev31 c, k0_dev31_lt c⟩ (Fin.ext (k0_dev31_eq c)) 13 14 (by decide) rfl k0_pay55 rfl) $$ [HA Hp]
  · isplitr; · iexact HR
    isplitr; · iexact Hlev
    isplitl [HA] <;> iassumption
  iintro ⟨HA, Hp⟩
  iapply (hop_rs X T K c ⟨k0_dev32 c, k0_dev32_lt c⟩ (Fin.ext (k0_dev32_eq c)) ⟨14, by decide⟩) $$ [HA]
  · isplitr; · iexact HR
    isplitr; · iexact Hlev
    iexact HA
  iintro HA
  unfold RsMid pPts rPts
  icases HA with ⟨⟨%f, %hf, Hf, HL⟩, Ha, HaS, -, %W4, HO⟩
  -- the result
  have h14 := rRect_sub ⟨14, by decide⟩
  iapply (wp_load 𝒱₀ (c : Thread nD τ) none Set.univ (m := rM) h14) $$ Hf; iintro Hf
  iapply (wp_load 𝒱₀ (c : Thread nD τ) none Set.univ (m := pM) (Finset.subset_univ _)) $$ Hp; iintro Hp
  iapply (wp_load 𝒱₀ (c : Thread nD τ) none Set.univ (m := Memref.whole cc0_stg3_0) (Finset.subset_univ _)) $$ Hout; iintro Hout
  iapply (wp_store 𝒱₀ (c : Thread nD τ) none Set.univ (m := Memref.whole cc0_stg3_0) (r := Rect.unit (s := S2x128x512) ![0, 0, 0] S2x128x512.size inb_S2x128x512_S2x128x512_0_0_0) (Mk := Finset.univ) (Finset.subset_univ _)) $$ Hout; iintro Hout
  ihave Hout := (Entails.of_eq (out_stored T c r f hf)) $$ Hout
  ihave HL := HL $$ Hf
  ihave HL := (rs_done c f) $$ HL
  icases HL with ⟨Hr, HzR⟩
  -- the exit barrier
  ihave HO := (Entails.of_eq (congrArg (fun O => owes (c : Thread nD τ) O W4) (ORs_end c))) $$ HO
  iapply (signal_bar X T K c _ (prv c) (dev33_eq c) kBar2 (.inr rfl) true rfl (tallyAt (cell (nxt c) kBar2) () 1)) $$ [HO HtXP]
  · isplitr; · iexact HR
    isplitl [HO]; · iexact HO
    isplitl [HtXP]; · iexact HtXP
    rw [show pay X T (prv c) kBar2 0 true = iprop(emp) from rfl]; iempintro
  iintro HO
  ihave HO := (Entails.of_eq (congrArg (fun O => owes (c : Thread nD τ) O W4) (zero_add (tallyAt (cell (nxt c) kBar2) () 1)).symm)) $$ HO
  iapply (signal_bar X T K c _ (nxt c) (dev34_eq c) kBar2 (.inr rfl) false rfl 0) $$ [HO HtXN]
  · isplitr; · iexact HR
    isplitl [HO]; · iexact HO
    isplitl [HtXN]; · iexact HtXN
    rw [show pay X T (nxt c) kBar2 0 false = iprop(emp) from rfl]; iempintro
  iintro HO
  iapply (wait_bar X T K c kBar2 (.inr rfl) rfl 0 (Above.zero _)) $$ [HcX HO HaX]
  · isplitr; · iexact HR
    isplitr; · iexact Hlev
    isplitl [HcX]; · iexact HcX
    isplitl [HO] <;> iassumption
  iintro ⟨HO, HzX, -⟩
  -- the send cells close
  imod (close X T K c kAgS) $$ [HaA] with HzAS
  · isplitr; · iexact HR
    iexact HaA
  imod (close X T K c kRsS) $$ [HaS] with HzRS
  · isplitr; · iexact HR
    iexact HaS
  rw [wp_ret]
  imodintro
  iapply Hk
  unfold Φ₁ kvArr scratch kvSems closed
  isplitr [HO Hgx Hgq Hgo Hout]
  · isplitl [HKa HVa]; · isplitl [HKa] <;> iassumption
    isplitl [Hx Hp Ho Ha Hr Hk5 Hv6]
    · isplitl [Hx]; · iexists _; iexact Hx
      isplitl [Hp]; · iexists _; iexact Hp
      isplitl [Ho]; · iexists _; iexact Ho
      isplitl [Ha]; · iexists _; unfold aPts; iexact Ha
      isplitl [Hr]; · iexact Hr
      isplitl [Hk5]; · iexists _; iexact Hk5
      iexists _; iexact Hv6
    isplitl [HsK HsV]; · isplitl [HsK] <;> iassumption
    isplitl [HzB]; · iexact HzB
    isplitl [HzX]; · iexact HzX
    isplitl [HzAS]; · iexact HzAS
    isplitl [HzRS]; · iexact HzRS
    isplitl [HzA] <;> iassumption
  isplitl [HO]; · iexact HO
  isplitl [Hgx]; · iexact Hgx
  isplitl [Hgq]; · iexact Hgq
  isplitl [Hgo] <;> iassumption

end

end Cert.RingAttn

end
-- ==== Proof.Dats.lean ====
/-
What each window of the kernel call holds before and after the body, and the body's obligation from `sound_body`.
-/
module

public import proofs.«01_k».proof.Proof.Body

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: every counter at zero. -/
def s₀ : MemSt nD τ sig (Elt F) := ⟨m, fun _ => 0, ρ⟩

/-! ## The values -/

/-- The staged input, query weights and output weights of device `c`. -/
def inX (c : Dev nD) : Vec F S2x128x512 .f32 := ((cfg0.win 0).blk t0_0).view.read (Elt F) (m ((c : Thread nD τ).loc main_arg0))
def inQ (c : Dev nD) : Vec F S512x512 .f32 := ((cfg0.win 1).blk t0_0).view.read (Elt F) (m ((c : Thread nD τ).loc main_arg1))
def inO (c : Dev nD) : Vec F S512x512 .f32 := ((cfg0.win 2).blk t0_0).view.read (Elt F) (m ((c : Thread nD τ).loc main_arg2))
/-- Its keys and values. -/
def inK (c : Dev nD) : Vec F S32x128x128x64 .f32 := m ((c : Thread nD τ).loc main_arg3)
def inV (c : Dev nD) : Vec F S32x128x128x64 .f32 := m ((c : Thread nD τ).loc main_arg4)

/-- The rows device `c` starts with. -/
def rowsOf (c : Dev nD) : Vec F S256x512 .f32 := k0_pay38 (inX m c)
/-- What device `c`'s loop makes of each block of rows. -/
def prods (c : Dev nD) : Dev nD → Vec F S256x512 .f32 := part (inQ m c) (inO m c) (inK m c) (inV m c) (rowsOf m) c

/-! ## The windows -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inQ m c
    | ⟨2, _⟩ => inO m c
    | ⟨3, _⟩ => outV (prods m) c
  Φ t := match t with
    | ⟨0, _⟩ => Φ₀ (rowsOf m) (prods m) c (inK m c) (inV m c)
    | ⟨_ + 1, _⟩ => Φ₁ c (inK m c) (inV m c)
  q _ := fullShare
  owed t := match t with
    | ⟨0, _⟩ => O₀ c
    | ⟨_ + 1, _⟩ => 0

omit [FloatOps F] in
theorem whole_owned (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

/-- A staging buffer at contents `v`. -/
abbrev stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

def preB (c : Dev nD) : sProp 𝕄 :=
  iprop(Φ₀ (rowsOf m) (prods m) c (inK m c) (inV m c) ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def postB (c : Dev nD) : sProp 𝕄 :=
  iprop(Φ₁ c (inK m c) (inV m c) ∗ (dats m ρ 0 c).owesAt () t0_0.succ
    ∗ stg c cc0_stg0_0 (inX m c) ∗ stg c cc0_stg1_0 (inQ m c) ∗ stg c cc0_stg2_0 (inO m c) ∗ stg c cc0_stg3_0 (outV (prods m) c))

theorem before_0 (c : Dev nD) (d) : (dats (F := F) m ρ 0 c).before (0 : Fin 4) t0_0 d = inX m c := by
  unfold Dat.before; rw [if_pos (fetch0_0 t0_0)]; rfl
theorem before_1 (c : Dev nD) (d) : (dats (F := F) m ρ 0 c).before (1 : Fin 4) t0_0 d = inQ m c := by
  unfold Dat.before; rw [if_pos (fetch0_1 t0_0)]; rfl
theorem before_2 (c : Dev nD) (d) : (dats (F := F) m ρ 0 c).before (2 : Fin 4) t0_0 d = inO m c := by
  unfold Dat.before; rw [if_pos (fetch0_2 t0_0)]; rfl

theorem post_of (c : Dev nD) : iprop(Φ₁ c (inK m c) (inV m c) ∗ (∃ W, owes (c : Thread nD τ) 0 W) ∗ staged c (inX m c) (inQ m c) (inO m c) (outV (prods m) c))
    ⊢ postB (F := F) m ρ c := by
  unfold postB Dat.owesAt Pipeline.owesWithin staged
  rw [show (dats (F := F) m ρ 0 c).owed t0_0.succ = 0 from rfl]
  iintro ⟨HΦ, ⟨%W, HO⟩, H0, H1, H2, H3⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 4000 in
theorem body_runs (c : Dev nD) : preB (F := F) m ρ c ⊢ wp frame (wpE (defs₀ (F := F)) 𝒱₀ (c : Thread nD τ) none) Set.univ (bodyAt0 t0_0) (fun _ => postB m ρ c) := by
  unfold preB
  iintro ⟨HΦ, Ho, ⟨%d0, %g0, %h0, H0⟩, ⟨%d1, %g1, %h1, H1⟩, ⟨%d2, %g2, %h2, H2⟩, ⟨%d3, %g3, %h3, H3⟩⟩
  rw [before_0] at h0
  rw [before_1] at h1
  rw [before_2] at h2
  subst h0
  subst h1
  subst h2
  unfold Dat.owesAt Pipeline.owesWithin
  icases Ho with ⟨%W, %hW, HO⟩
  ihave HO := (Entails.of_eq (congrArg (fun O => owes (c : Thread nD τ) O W) (show (dats (F := F) m ρ 0 c).owed t0_0.castSucc = O₀ c from rfl))) $$ HO
  iapply (sound_body (rowsOf m) (prods m) c t0_0 (inX m c) (inQ m c) (inO m c) (inK m c) (inV m c) rfl rfl g3 W (fun _ => postB m ρ c)) $$ [HΦ HO H0 H1 H2 H3]
  · isplitl [HΦ]; · iexact HΦ
    isplitl [HO]; · iexact HO
    unfold staged
    isplitl [H0]; · iexact H0
    isplitl [H1]; · iexact H1
    isplitl [H2]; · iexact H2
    iexact H3
  iintro H
  iapply (post_of m ρ c)
  iexact H

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [whole_owned]
  exact body_runs m ρ c

end Cert.RingAttn

end
-- ==== Proof.Launch.lean ====
/-
The launch: the ring's cells and tokens minted and dealt around the ring, the credits each device starts with, the
conditions of the region's rule, and the run — every device ends with its result, everything else as it was, every
counter at zero.
-/
module

public import proofs.«01_k».proof.Proof.Dats
public import Idealize.ShloMosaic.Lib.Pipeline.CollectiveSegs

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- All but the entry barrier's cell, which the machine owns; and the loop's two. -/
abbrev OwnIx : Type := Fin 5 ⊕ (Fin 15 ⊕ Fin 15)
def osem : OwnIx → SemLoc sig
  | .inl 0 => csem kBar2
  | .inl 1 => csem kAgS
  | .inl 2 => csem kRsS
  | .inl 3 => .dma cc0_scratch11.sem
  | .inl 4 => .dma cc0_scratch12.sem
  | .inr k => csem (.inr k)
def onum : OwnIx → ℕ
  | .inl 0 => 1
  | .inl 1 => 6
  | .inl 2 => 7
  | .inl 3 => 38
  | .inl 4 => 39
  | .inr (.inl h) => 8 + h.val
  | .inr (.inr h) => 23 + h.val
theorem onum_inj : Function.Injective onum := by decide
theorem cnum_osem (k : OwnIx) : cnum (osem k) = onum k := by
  rcases k with k | k | k
  · fin_cases k <;> rfl
  · exact cnum_csem (kAgR k)
  · exact cnum_csem (kRsR k)
theorem stage_num : ∀ (w : Fin 4) (s : Fin (spec0 w).nbuf), cnum (.dma ((spec0 w).sem s)) ∈ ({2, 3, 4, 5} : Finset ℕ) := by decide
theorem onum_off : ∀ k : OwnIx, onum k ∉ ({2, 3, 4, 5} : Finset ℕ) := by decide
theorem knum_off : ∀ k : CK, knum k ∉ ({2, 3, 4, 5} : Finset ℕ) := by decide

theorem ownSemFacts : Pipeline.OwnSemFacts cfg0.spec osem where
  isScoped k := by
    rcases k with k | k | k
    · fin_cases k <;> rfl
    · fin_cases k <;> rfl
    · fin_cases k <;> rfl
  inj a b h := onum_inj (by rw [← cnum_osem, ← cnum_osem, h])
  disj k w s h := onum_off k (by rw [← cnum_osem, h]; exact stage_num w s)

/-! ## Cells and tokens -/

theorem cells_inj : Function.Injective (fun ck : Dev nD × CK => cell ck.1 ck.2) := fun a b h =>
  Prod.ext (cell_inj h).1 (cell_inj h).2
def ringCells : Finset (GSem nD τ sig) := Finset.univ.map ⟨fun ck : Dev nD × CK => cell ck.1 ck.2, cells_inj⟩

/-- The duties of a device's own cells. -/
abbrev DutyIx : Type := Fin 4 ⊕ ((Fin 15 ⊕ Fin 15) ⊕ (Fin 15 ⊕ Fin 15))
def dutyAt : DutyIx → CK × ℕ × Bool
  | .inl 0 => (kBar, 0, true)
  | .inl 1 => (kBar, 0, false)
  | .inl 2 => (kBar2, 0, true)
  | .inl 3 => (kBar2, 0, false)
  | .inr (.inl (.inl h)) => (kAgS, h.val, false)
  | .inr (.inl (.inr h)) => (kRsS, h.val, false)
  | .inr (.inr k) => (.inr k, 0, false)
theorem dutyAt_inj : Function.Injective dutyAt := by
  rintro (a | (a | a) | a) (b | (b | b) | b) h
  · fin_cases a <;> fin_cases b <;> first | rfl | exact absurd h (by decide)
  · exact absurd (congrArg (fun x => knum x.1) h) (by fin_cases a <;> simp [dutyAt, knum])
  · exact absurd (congrArg (fun x => knum x.1) h) (by fin_cases a <;> simp [dutyAt, knum])
  · exact absurd (congrArg Prod.fst h) (by fin_cases a <;> simp [dutyAt])
  · exact absurd (congrArg (fun x => knum x.1) h) (by fin_cases b <;> simp [dutyAt, knum])
  · have : a = b := Fin.ext (congrArg (fun x => x.2.1) h)
    rw [this]
  · exact absurd (congrArg (fun x => knum x.1) h) (by simp [dutyAt, knum])
  · exact absurd (congrArg Prod.fst h) (by simp [dutyAt])
  · exact absurd (congrArg (fun x => knum x.1) h) (by fin_cases b <;> simp [dutyAt, knum])
  · exact absurd (congrArg (fun x => knum x.1) h) (by simp [dutyAt, knum])
  · have : a = b := Fin.ext (congrArg (fun x => x.2.1) h)
    rw [this]
  · exact absurd (congrArg Prod.fst h) (by simp [dutyAt])
  · exact absurd (congrArg Prod.fst h) (by fin_cases b <;> simp [dutyAt])
  · exact absurd (congrArg Prod.fst h) (by simp [dutyAt])
  · exact absurd (congrArg Prod.fst h) (by simp [dutyAt])
  · have : a = b := Sum.inr.inj (congrArg Prod.fst h)
    rw [this]

abbrev tokOf (cj : Dev nD × DutyIx) : GSem nD τ sig × ℕ × Bool := (cell cj.1 (dutyAt cj.2).1, (dutyAt cj.2).2)
theorem tokOf_inj : Function.Injective tokOf := fun a b h => by
  have h1 := cell_inj (congrArg Prod.fst h)
  have h2 : (dutyAt a.2).2 = (dutyAt b.2).2 := congrArg (fun x : GSem nD τ sig × ℕ × Bool => x.2) h
  have h3 : dutyAt a.2 = dutyAt b.2 := Prod.ext h1.2 h2
  exact Prod.ext h1.1 (dutyAt_inj h3)
def ringToks : Finset (GSem nD τ sig × ℕ × Bool) := Finset.univ.map ⟨tokOf, tokOf_inj⟩

def u₀ : UU := (initOf (Pipeline.cells cfgs cellOf_inj) (Pipeline.launchToks cfgs cellOf_inj), (initOf ringCells ringToks, 1))

omit [FloatOps F] in
/-- The ring's rounds out of the second component of the launch element. -/
theorem ring_part : (BI.own (embR (nD := nD) (τ := τ) (sig := sig) (Ix := Unit) (Val := Elt F) (Name := ℕ) (Lvl := ℕ) (A := UR sig nD τ) ((initOf ringCells ringToks, 1) : UB × Counters)) : sProp 𝕄)
    ⊢ BI.own (ER (initOf ringCells ringToks)) :=
  (own_pair_emb _ _ _).trans (by iintro ⟨H, -⟩; iexact H)

/-! ## Families over the cells of a device -/

omit [FloatOps F] in
theorem split4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem split5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
theorem split_CK (Φ : CK → sProp 𝕄) : bigSep Finset.univ Φ
    = iprop((Φ kBar ∗ Φ kBar2 ∗ Φ kAgS ∗ Φ kRsS) ∗ (bigSep Finset.univ fun h : Fin 15 => Φ (kAgR h)) ∗ bigSep Finset.univ fun h : Fin 15 => Φ (kRsR h)) := by
  rw [BI.bigSep_univ_sum, BI.bigSep_univ_sum, split4]; rfl
omit [FloatOps F] in
theorem split_OwnIx (Φ : OwnIx → sProp 𝕄) : bigSep Finset.univ Φ
    = iprop((Φ (.inl 0) ∗ Φ (.inl 1) ∗ Φ (.inl 2) ∗ Φ (.inl 3) ∗ Φ (.inl 4)) ∗ (bigSep Finset.univ fun h : Fin 15 => Φ (.inr (.inl h))) ∗ bigSep Finset.univ fun h : Fin 15 => Φ (.inr (.inr h))) := by
  rw [BI.bigSep_univ_sum, BI.bigSep_univ_sum, split5]; rfl
omit [FloatOps F] in
theorem split_DutyIx (Φ : DutyIx → sProp 𝕄) : bigSep Finset.univ Φ
    = iprop((Φ (.inl 0) ∗ Φ (.inl 1) ∗ Φ (.inl 2) ∗ Φ (.inl 3))
        ∗ ((bigSep Finset.univ fun h : Fin 15 => Φ (.inr (.inl (.inl h)))) ∗ bigSep Finset.univ fun h : Fin 15 => Φ (.inr (.inl (.inr h))))
        ∗ ((bigSep Finset.univ fun h : Fin 15 => Φ (.inr (.inr (.inl h)))) ∗ bigSep Finset.univ fun h : Fin 15 => Φ (.inr (.inr (.inr h))))) := by
  rw [BI.bigSep_univ_sum, BI.bigSep_univ_sum, BI.bigSep_univ_sum (fun a => Φ (.inr (.inl a))), BI.bigSep_univ_sum (fun a => Φ (.inr (.inr a))), split4]; rfl

omit [FloatOps F] in
theorem ownSems0_eq (c : Dev nD) : (Pipeline.ownSems0 (Ix := Unit) (Name := ℕ) (U := UU) (Lvl := ℕ) (Val := Elt F) (τ := τ) osem c : sProp 𝕄)
    = iprop((semVal (cell c kBar2) 0 ∗ semVal (cell c kAgS) 0 ∗ semVal (cell c kRsS) 0
          ∗ semVal ((c : Thread nD τ), SemLoc.dma cc0_scratch11.sem) 0 ∗ semVal ((c : Thread nD τ), SemLoc.dma cc0_scratch12.sem) 0)
        ∗ (bigSep Finset.univ fun h : Fin 15 => semVal (cell c (kAgR h)) 0) ∗ bigSep Finset.univ fun h : Fin 15 => semVal (cell c (kRsR h)) 0) := by
  unfold Pipeline.ownSems0; rw [split_OwnIx]; rfl
omit [FloatOps F] in
theorem unscopedSems0_eq (c : Dev nD) : (unscopedSems0 c : sProp 𝕄) = semVal (cell c kBar) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (cell c k) 0) ∗ kvSems (F := F) c : sProp 𝕄) := by
  rw [ownSems0_eq, unscopedSems0_eq, split_CK]
  unfold kvSems
  iintro ⟨⟨⟨H1, H2, H3, H4, H5⟩, H6, H7⟩, HB⟩
  isplitr [H4 H5]
  · isplitl [HB H1 H2 H3]
    · isplitl [HB]; · iexact HB
      isplitl [H1]; · iexact H1
      isplitl [H2]; · iexact H2
      iexact H3
    isplitl [H6] <;> iassumption
  isplitl [H4] <;> iassumption

/-! ## Minting and dealing -/

section

variable (X : Dev nD → Vec F S256x512 .f32) (T : Dev nD → Dev nD → Vec F S256x512 .f32)

/-- The duty tokens of device `c`'s own cells. -/
def toks (c : Dev nD) : sProp 𝕄 :=
  iprop((dutyTok ER (cell c kBar) 0 true ∗ dutyTok ER (cell c kBar) 0 false ∗ dutyTok ER (cell c kBar2) 0 true ∗ dutyTok ER (cell c kBar2) 0 false)
    ∗ ((bigSep Finset.univ fun h : Fin 15 => dutyTok ER (cell c kAgS) h.val false) ∗ bigSep Finset.univ fun h : Fin 15 => dutyTok ER (cell c kRsS) h.val false)
    ∗ ((bigSep Finset.univ fun h : Fin 15 => dutyTok ER (cell c (kAgR h)) 0 false) ∗ bigSep Finset.univ fun h : Fin 15 => dutyTok ER (cell c (kRsR h)) 0 false))
/-- The tokens device `c` pays with. -/
def paid (c : Dev nD) : sProp 𝕄 :=
  iprop((dutyTok ER (cell (prv c) kBar) 0 true ∗ dutyTok ER (cell (nxt c) kBar) 0 false ∗ dutyTok ER (cell (prv c) kBar2) 0 true ∗ dutyTok ER (cell (nxt c) kBar2) 0 false)
    ∗ ((bigSep Finset.univ fun h : Fin 15 => dutyTok ER (cell c kAgS) h.val false) ∗ bigSep Finset.univ fun h : Fin 15 => dutyTok ER (cell c kRsS) h.val false)
    ∗ ((bigSep Finset.univ fun h : Fin 15 => dutyTok ER (cell (nxt c) (kAgR h)) 0 false) ∗ bigSep Finset.univ fun h : Fin 15 => dutyTok ER (cell (nxt c) (kRsR h)) 0 false))

/-- What the launch element deals device `c`, -/
def G (c : Dev nD) : sProp 𝕄 :=
  iprop((bigSep Finset.univ fun k : CK => roundState ER (ringRd X T) (cell c k) 0)
    ∗ (bigSep Finset.univ fun k : CK => iprop(atPos ER (cell c k) 0 ∅ 0 ∗ reached ER (cell c k) 0)) ∗ toks c)
/-- and what the global step makes of it. -/
def G' (c : Dev nD) : sProp 𝕄 := iprop((∃ K, records X T K ∗ linear c) ∗ kvSems c)

theorem fund_ring : BI.own (ER (initOf ringCells ringToks)) ⊢ (|==> bigSep Finset.univ (G X T) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [split_DutyIx]; simp only [Function.Embedding.coeFn_mk, tokOf, dutyAt]
  iintro HX
  imod (Rounds.fund ER (ringRd X T) ringCells ringToks) $$ HX with ⟨Hst, Hr, Hat, Htok⟩
  imodintro
  ihave Hst' := (Entails.of_eq (hX fun g => roundState ER (ringRd X T) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G X T c)
      ⊢ |={Set.univ}=> iprop((bigSep Finset.univ fun k : CK => iprop(∃ κ : ℕ, cellInv ER (ringRd X T) κ (cell c k)))
          ∗ (bigSep Finset.univ fun k : CK => iprop(atPos ER (cell c k) 0 ∅ 0 ∗ reached ER (cell c k) 0)) ∗ toks c ∗ kvSems c) := by
  unfold G
  iintro ⟨Hos, Hus, Hst, Hat, Htok⟩
  ihave Hv := (sems0_eq (F := F) c) $$ [Hos Hus]
  · isplitl [Hos] <;> iassumption
  icases Hv with ⟨Hv, Hkv⟩
  imod (show iprop((bigSep Finset.univ fun k : CK => semVal (cell c k) 0) ∗ bigSep Finset.univ fun k : CK => roundState ER (ringRd X T) (cell c k) 0)
      ⊢ (|={Set.univ}=> bigSep Finset.univ fun k : CK => iprop(∃ κ : ℕ, cellInv ER (ringRd X T) κ (cell c k)) : sProp 𝕄) from by
        rw [← bigSep_sep']
        exact (bigSep_mono fun k _ => (Rounds.body_intro ER (ringRd X T) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hkv

omit [FloatOps F] in
theorem toks_around : (bigSep Finset.univ fun c : Dev nD => (toks c : sProp 𝕄)) ⊢ bigSep Finset.univ fun c : Dev nD => paid c := by
  unfold toks paid
  simp only [bigSep_sep']
  rw [bigSep_univ_equiv ring.symm (fun c : Dev nD => (dutyTok ER (cell c kBar) 0 true : sProp 𝕄)),
    bigSep_univ_equiv ring (fun c : Dev nD => (dutyTok ER (cell c kBar) 0 false : sProp 𝕄)),
    bigSep_univ_equiv ring.symm (fun c : Dev nD => (dutyTok ER (cell c kBar2) 0 true : sProp 𝕄)),
    bigSep_univ_equiv ring (fun c : Dev nD => (dutyTok ER (cell c kBar2) 0 false : sProp 𝕄)),
    bigSep_univ_equiv ring (fun c : Dev nD => (bigSep Finset.univ fun h : Fin 15 => (dutyTok ER (cell c (kAgR h)) 0 false : sProp 𝕄))),
    bigSep_univ_equiv ring (fun c : Dev nD => (bigSep Finset.univ fun h : Fin 15 => (dutyTok ER (cell c (kRsR h)) 0 false : sProp 𝕄)))]
  exact BI.Entails.refl _

omit [FloatOps F] in
theorem agLin_eq (c : Dev nD) : (bigSep Finset.univ (agLin c) : sProp 𝕄)
    = iprop((bigSep Finset.univ fun h : Fin 15 => dutyTok ER (cell (nxt c) (kAgR h)) 0 false) ∗ (bigSep Finset.univ fun h : Fin 15 => dutyTok ER (cell c kAgS) h.val false)
        ∗ bigSep Finset.univ fun h : Fin 15 => atPos ER (cell c (kAgR h)) 0 ∅ 0) := by
  rw [← bigSep_sep', ← bigSep_sep']; rfl
omit [FloatOps F] in
theorem rsLin_eq (c : Dev nD) : (bigSep Finset.univ (rsLin c) : sProp 𝕄)
    = iprop((bigSep Finset.univ fun h : Fin 15 => dutyTok ER (cell (nxt c) (kRsR h)) 0 false) ∗ (bigSep Finset.univ fun h : Fin 15 => dutyTok ER (cell c kRsS) h.val false)
        ∗ bigSep Finset.univ fun h : Fin 15 => atPos ER (cell c (kRsR h)) 0 ∅ 0) := by
  rw [← bigSep_sep', ← bigSep_sep']; rfl

omit [FloatOps F] in
theorem linear_of (c : Dev nD) : iprop((bigSep Finset.univ fun k : CK => atPos ER (cell c k) 0 ∅ 0) ∗ paid c) ⊢ (linear c : sProp 𝕄) := by
  unfold linear paid
  rw [split_CK, agLin_eq, rsLin_eq]
  iintro ⟨⟨⟨A1, A2, A3, A4⟩, A5, A6⟩, ⟨T1, T2, T3, T4⟩, ⟨T5, T6⟩, T7, T8⟩
  isplitl [T1]; · iexact T1
  isplitl [T2]; · iexact T2
  isplitl [T3]; · iexact T3
  isplitl [T4]; · iexact T4
  isplitl [A1]; · iexact A1
  isplitl [A2]; · iexact A2
  isplitl [A3]; · iexact A3
  isplitl [A4]; · iexact A4
  isplitl [T7 T5 A5]
  · isplitl [T7]; · iexact T7
    isplitl [T5] <;> iassumption
  isplitl [T8]; · iexact T8
  isplitl [T6] <;> iassumption

omit [FloatOps F] in
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_of (K : Dev nD × CK → ℕ) (c : Dev nD) :
    iprop(records X T K ∗ ((bigSep Finset.univ fun k : CK => atPos ER (cell c k) 0 ∅ 0) ∗ paid c ∗ kvSems c)) ⊢ G' X T c := by
  unfold G'
  iintro ⟨HR, HA, HP, HK⟩
  isplitr [HK]
  · iexists K
    isplitl [HR]; · iexact HR
    iapply (linear_of (F := F) c)
    isplitl [HA] <;> iassumption
  iexact HK

theorem regroup :
    (bigSep Finset.univ fun c : Dev nD => iprop((bigSep Finset.univ fun k : CK => iprop(∃ κ : ℕ, cellInv ER (ringRd X T) κ (cell c k)))
          ∗ (bigSep Finset.univ fun k : CK => iprop(atPos ER (cell c k) 0 ∅ 0 ∗ reached ER (cell c k) 0)) ∗ toks c ∗ kvSems c) : sProp 𝕄)
      ⊢ bigSep Finset.univ (G' X T) := by
  rw [bigSep_sep', bigSep_sep', bigSep_sep', ← bigSep_univ_prod (fun ck : Dev nD × CK => iprop(∃ κ : ℕ, cellInv ER (ringRd X T) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok, Hkv⟩
  ihave HK := (BI.bigSep_exists_pi Finset.univ (fun (ck : Dev nD × CK) (κ : ℕ) => (cellInv ER (ringRd X T) κ (cell ck.1 ck.2) : sProp 𝕄))) $$ HI
  icases HK with ⟨%K, #HI⟩
  ihave Htk := (toks_around (F := F)) $$ Htok
  iapply (deal (R := records X T K) fun c _ => G'_of X T K c)
  isplitr
  · unfold records; isplitl; · iexact HI
    iexact HR
  · simp only [bigSep_sep']
    isplitl [Hat]; · iexact Hat
    isplitl [Htk]; · iexact Htk
    iexact Hkv

theorem glob : (bigSep Finset.univ fun c => iprop(Pipeline.ownSems0 (Ix := Unit) (Name := ℕ) (U := UU) (Lvl := ℕ) (Val := Elt F) (τ := τ) osem c ∗ unscopedSems0 c ∗ G X T c) : sProp 𝕄)
    ⊢ |={Set.univ}=> bigSep Finset.univ (G' X T) :=
  ((bigSep_mono fun c _ => core_alloc X T c).trans (bigSep_fupd _ _)).trans (BI.fupd_mono (regroup X T))

end

/-! ## The launch credit -/

theorem O₀_eq : (O₀ : Dev nD → CellTallies nD τ sig Unit) = fun d =>
    ((((tallyAt (cell (nxt d) kBar2) () 1 + tallyAt (cell (prv d) kBar2) () 1) + ∑ h : Fin 15, tallyAt (cell (nxt d) (kRsR h)) () NR)
      + ∑ h : Fin 15, tallyAt (cell (nxt d) (kAgR h)) () NA) + tallyAt (cell (nxt d) kBar) () 1) + tallyAt (cell (prv d) kBar) () 1 := by
  funext d
  unfold O₀ OAg ORs OX
  rw [Finset.filter_true_of_mem fun _ _ => Nat.zero_le _]

omit [FloatOps F] in
theorem cred_nxt (k : CK) (n : ℕ) (c : Dev nD) : (Pipeline.launchCred (fun d => tallyAt (cell (nxt d) k) () n) c : sProp 𝕄) ⊢ cred (tallyAt (cell c k) () n) :=
  Pipeline.launchCred_tallyAt (csem k) nxt prv nxt_prv prv_nxt () n c
omit [FloatOps F] in
theorem cred_prv (k : CK) (n : ℕ) (c : Dev nD) : (Pipeline.launchCred (fun d => tallyAt (cell (prv d) k) () n) c : sProp 𝕄) ⊢ cred (tallyAt (cell c k) () n) :=
  Pipeline.launchCred_tallyAt (csem k) prv nxt prv_nxt nxt_prv () n c
omit [FloatOps F] in
theorem cred_two (k : CK) (c : Dev nD) : iprop(cred (tallyAt (cell c k) () 1) ∗ cred (tallyAt (cell c k) () 1)) ⊢ (cred (tallyAt (cell c k) () 2) : sProp 𝕄) := by
  rw [show (2 : ℕ) = 1 + 1 from rfl, ← tallyAt_add]
  exact (cred_add _ _).2
omit [FloatOps F] in
theorem cred_hops (k : Fin 15 → CK) (n : ℕ) (c : Dev nD) :
    (Pipeline.launchCred (fun d => ∑ h : Fin 15, tallyAt (cell (nxt d) (k h)) () n) c : sProp 𝕄) ⊢ bigSep Finset.univ fun h : Fin 15 => cred (tallyAt (cell c (k h)) () n) := by
  rw [Pipeline.launchCred_sum Finset.univ (fun (h : Fin 15) (d : Dev nD) => tallyAt (cell (nxt d) (k h)) () n) c]
  exact bigSep_mono fun h _ => cred_nxt (k h) n c

omit [FloatOps F] in
theorem creds_of (c : Dev nD) : (Pipeline.launchCred O₀ c : sProp 𝕄) ⊢ creds c := by
  rw [O₀_eq, Pipeline.launchCred_add, Pipeline.launchCred_add, Pipeline.launchCred_add, Pipeline.launchCred_add, Pipeline.launchCred_add]
  unfold creds
  iintro ⟨⟨⟨⟨⟨H1, H2⟩, H3⟩, H4⟩, H5⟩, H6⟩
  ihave H1 := (cred_nxt (F := F) kBar2 1 c) $$ H1
  ihave H2 := (cred_prv (F := F) kBar2 1 c) $$ H2
  ihave H3 := (cred_hops (F := F) kRsR NR c) $$ H3
  ihave H4 := (cred_hops (F := F) kAgR NA c) $$ H4
  ihave H5 := (cred_nxt (F := F) kBar 1 c) $$ H5
  ihave H6 := (cred_prv (F := F) kBar 1 c) $$ H6
  isplitl [H5 H6]
  · iapply (cred_two (F := F) kBar c)
    isplitl [H5] <;> iassumption
  isplitl [H1 H2]
  · iapply (cred_two (F := F) kBar2 c)
    isplitl [H1] <;> iassumption
  isplitl [H4] <;> iassumption

/-! ## The conditions of the region's rule -/

/-- What a device keeps from the launch to the body. -/
def held (c : Dev nD) : sProp 𝕄 := iprop(start (rowsOf m) (prods m) c (inK m c) (inV m c) ∗ kvSems c)
/-- What it ends with outside the call's buffers. -/
def left (c : Dev nD) : sProp 𝕄 := iprop(unscopedSems0 c ∗ kvArr c (inK m c) (inV m c))

theorem held_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (rowsOf m) (prods m) c)
      ⊢ |={Set.univ}=> iprop(held m c ∗ emp) := by
  rw [Pipeline.unscopedRestP_none, show cfg0.spec = spec0 from rfl, unscopedRest0_eq]
  unfold held start G' kvArr inK inV
  iintro ⟨⟨HKa, HVa⟩, Hlev, Hcr, -, HG, Hkv⟩
  ihave Hc := (creds_of (F := F) c) $$ Hcr
  imodintro
  isplitl
  · isplitr [Hkv]
    · isplitl [HG]; · iexact HG
      isplitl [Hc]; · iexact Hc
      isplitl [Hlev]; · iexact Hlev
      isplitl [HKa] <;> iassumption
    iexact Hkv
  · iempintro

theorem phi0_intro (c : Dev nD) :
    iprop(held m c ∗ Pipeline.prefHeld Pipeline.Prefetch.none c (fun _ => fullShare.right) (fun k => k.elim0) ∗ Pipeline.scopedRest cfg0.spec c)
      ⊢ (dats (F := F) m ρ 0 c).Φ 0 := by
  rw [show (dats (F := F) m ρ 0 c).Φ 0 = Φ₀ (rowsOf m) (prods m) c (inK m c) (inV m c) from rfl, show cfg0.spec = spec0 from rfl, scopedRest0_eq]
  unfold Φ₀ held scratch
  iintro ⟨⟨Hs, Hk⟩, -, Hr⟩
  isplitl [Hs]; · iexact Hs
  isplitl [Hr]; · iexact Hr
  iexact Hk

theorem phi1_exit (c : Dev nD) :
    (dats (F := F) m ρ 0 c).Φ (Fin.last cfg0.N) ⊢ iprop(left m c ∗ Pipeline.ownSems0 osem c ∗ Pipeline.scopedRest cfg0.spec c) := by
  rw [show (dats (F := F) m ρ 0 c).Φ (Fin.last cfg0.N) = Φ₁ c (inK m c) (inV m c) from rfl, show cfg0.spec = spec0 from rfl, scopedRest0_eq, ownSems0_eq]
  unfold Φ₁ left closed kvSems scratch
  rw [unscopedSems0_eq]
  iintro ⟨Hkv, Hr, ⟨HsK, HsV⟩, HB, HB2, HA, HR, HAs, HRs⟩
  isplitl [HB Hkv]
  · isplitl [HB] <;> iassumption
  isplitr [Hr]
  · isplitr [HAs HRs]
    · isplitl [HB2]; · iexact HB2
      isplitl [HA]; · iexact HA
      isplitl [HR]; · iexact HR
      isplitl [HsK] <;> iassumption
    isplitl [HAs] <;> iassumption
  iexact Hr

theorem stage_low (c : Dev nD) (w : Fin 4) (s : Fin (spec0 w).nbuf) : lv ((c : Thread nD τ), SemLoc.dma ((spec0 w).sem s)) () = 0 := by
  show (role (SemLoc.dma ((spec0 w).sem s))).elim 0 lvK = 0
  rw [role_none fun k h => knum_off k (by rw [← cnum_csem, h]; exact stage_num w s)]
  rfl

theorem waits (c : Dev nD) : (levAts L lv : sProp 𝕄) ⊢ Pipeline.cellsWaits cfgs (dats m ρ) () 0 c :=
  Pipeline.cellsWaits_intro cfgs (dats m ρ) () 0 c fun w s t => by
    have hO : Above 1 ((dats (F := F) m ρ 0 c).owed t) := by
      rcases t with ⟨_ | _, ht⟩
      · exact O₀_above c
      · exact Above.zero 1
    exact hO.mayWait c _ (by rw [show lv ((c : Thread nD τ), SemLoc.dma ((spec0 w).sem s)) () = 0 from stage_low c w s]; exact Nat.one_pos)

theorem share_eq (c : Dev nD) (w : Fin cfg0.W) : (dats (F := F) m ρ 0 c).share w = fullShare := by unfold Dat.share; split <;> rfl

/-! ## The run -/

/-- The keys and the values read back from memory at the end. -/
theorem read_kv (c : Dev nD) (s' : Phys nD τ sig (Elt F)) :
    iprop(kvArr c (inK m c) (inV m c) ∗ SI s')
      ⊢ iprop(⌜s'.mem.mem ((c : Thread nD τ).loc main_arg3) = m ((c : Thread nD τ).loc main_arg3) ∧ s'.mem.mem ((c : Thread nD τ).loc main_arg4) = m ((c : Thread nD τ).loc main_arg4)⌝ ∗ (SI s' : sProp 𝕄)) := by
  unfold kvArr inK inV
  iintro ⟨⟨HK, HV⟩, HSI⟩
  icombine HSI HK gives %hK
  icombine HSI HV gives %hV
  isplitr
  · ipureintro
    exact ⟨Buf.eq_of_forall_mem_univ hK, Buf.eq_of_forall_mem_univ hV⟩
  iexact HSI

/-- Each device's windows' arrays as the call leaves them, and its keys and values as launched. -/
def QC (s : MemSt nD τ sig (Elt F)) : Prop :=
  ∀ c : Dev nD, (∀ w : Fin cfg0.W, s.mem ((cfg0.win w).arr.view.loc (c : Thread nD τ)) = (dats (F := F) m ρ 0 c).arrAt w cfg0.N)
    ∧ s.mem ((c : Thread nD τ).loc main_arg3) = m ((c : Thread nD τ).loc main_arg3) ∧ s.mem ((c : Thread nD τ).loc main_arg4) = m ((c : Thread nD τ).loc main_arg4)

set_option maxRecDepth 8000 in
/-- From any memory with zero counters, for any float values, every weakly fair execution of the sixteen devices'
    program terminates with the windows' arrays as computed, the keys and values unchanged and every counter at zero. -/
theorem run_arrays : θ_run defs (onTc (τ := τ) (main (F := F))) (s₀ m ρ) (fun r => QC m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (rowsOf m) (prods m)) (G' := G' (rowsOf m) (prods m)) (u₀ := u₀)
    (hu₀ := by
      unfold u₀
      iintro Hu
      ihave H := (ownU_pair _ _) $$ Hu
      icases H with ⟨HP, HX⟩
      ihave HX := (ring_part (F := F)) $$ HX
      imod (fund_ring (rowsOf m) (prods m)) $$ HX with HG
      imodintro
      isplitl [HP] <;> iassumption)
    (hglob := glob (rowsOf m) (prods m))
    (hA := fun _ _ => rfl) (hpf := fun _ k => k.elim0)
    (X := held m) (Y := left m) (Z := fun _ => iprop(emp))
    (hX := held_intro m ρ) (hin := phi0_intro m ρ) (hout := phi1_exit m ρ)
    (QY := fun c s => (s.mem ((c : Thread nD τ).loc main_arg3) = m ((c : Thread nD τ).loc main_arg3) ∧ s.mem ((c : Thread nD τ).loc main_arg4) = m ((c : Thread nD τ).loc main_arg4))
      ∧ ∀ sm : SemLoc sig, sm.isScoped .tc = false → s.sem ((c.tc : Thread nD τ), sm) = 0)
    (hY := fun c s' => by
      unfold left
      iintro ⟨⟨Hu, Hkv⟩, -, HSI⟩
      ihave H := (read_kv m c s') $$ [Hkv HSI]
      · isplitl [Hkv] <;> iassumption
      icases H with ⟨%hkv, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hkv, hs⟩
      iexact HSI)
    (hQ := fun _ h hs => ⟨fun c => ⟨fun w => (h c).1 w, (h c).2.2.1⟩, sem_eq_zero hs fun c => (h c).2.2.2⟩)

end Cert.RingAttn

end
-- ==== Proof.Frames.lean ====
/-
The frames of the kernel's program, at any float values: every argument array ends as it was, every counter at zero.
-/
module

public import proofs.«01_k».proof.Proof.Launch

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each device's arguments as launched. -/
def ArgsKept (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem args_of {s : MemSt nD τ sig (Elt F)} (h : QC m ρ s) (c : Dev nD) : ArgsKept m s c :=
  ⟨((h c).1 0).trans ((dats (F := F) m ρ 0 c).arrAt_in (0 : Fin 4) rfl _), ((h c).1 1).trans ((dats (F := F) m ρ 0 c).arrAt_in (1 : Fin 4) rfl _),
    ((h c).1 2).trans ((dats (F := F) m ρ 0 c).arrAt_in (2 : Fin 4) rfl _), (h c).2.1, (h c).2.2⟩

/-- The run, what it leaves in the result array included. -/
theorem run_main : θ_run defs (onTc (τ := τ) (main (F := F))) (s₀ m ρ) (fun r =>
    (∀ c : Dev nD, ArgsKept m r.2 c ∧ r.2.mem ((c : Thread nD τ).loc main_v1) = (dats (F := F) m ρ 0 c).arrAt (3 : Fin 4) cfg0.N) ∧ r.2.sem = fun _ => 0) :=
  (θ_run defs _ _).mono (fun _ h => ⟨fun c => ⟨args_of m ρ h.1 c, (h.1 c).1 3⟩, h.2⟩) (run_arrays m ρ)

end Cert.RingAttn

end
-- ==== Proof.SumVal.lean ====
/-
The second ring's sums at an entry: a device's result is, entry by entry, the sum over the sixteen devices of what each
made of that device's block.
-/
module

public import proofs.«01_k».proof.Proof.Body
public import Idealize.ShloMosaic.Lib.Pointwise

@[expose] public section

noncomputable section

namespace Cert.RingAttn

open Cert.KernelIdeal Cert.KernelIdeal.Gen
open Idealize.ShloMosaic

variable (T : Dev nD → Dev nD → Vec Ideal S256x512 .f32)

theorem bk_one (c : Dev nD) : bk c 1 = prv c := by revert c; decide
theorem bk_sixteen (c : Dev nD) : bk c 16 = c := by revert c; decide

theorem first_at (v : Vec Ideal S256x512 .f32) (r : Fin 256) (o : Fin 512) : (k0_pay41 v : FVec Ideal S256x512 .f32) (ix2 r o) = (v (ix2 r o) : EReal) := by
  pointwise [k0_pay41]

theorem addV_at (u w : Vec Ideal S256x512 .f32) (r : Fin 256) (o : Fin 512) : (addV u w (ix2 r o) : EReal) = (u (ix2 r o) : EReal) + (w (ix2 r o) : EReal) := by
  unfold addV
  pointwise

theorem last_at (u w : Vec Ideal S256x512 .f32) (b : Fin 2) (i : Fin 128) (o : Fin 512) :
    ((k0_pay1 u w : FVec Ideal S2x128x512 .f32) (ix3 b i o) : EReal) = (u (ix2 ⟨128 * b.val + i.val, by omega⟩ o) : EReal) + (w (ix2 ⟨128 * b.val + i.val, by omega⟩ o) : EReal) := by
  pointwise [k0_pay1]
  simp only [Nat.mul_comm 128]

/-- What is sent at hop `h`: the sum of `h + 1` devices' products of one block. -/
theorem sent_at (r : Fin 256) (o : Fin 512) : ∀ (h : ℕ) (hh : h < 15) (c : Dev nD),
    (A T h c (ix2 r o) : EReal) = ∑ s ∈ Finset.range (h + 1), (T (bk c s) (bk c (h + 1)) (ix2 r o) : EReal)
  | 0, _, c => by
    rw [show A T 0 c = k0_pay41 (T c (bk c 1)) from rfl, first_at, Finset.sum_range_one, bk_zero]
  | h + 1, hh, c => by
    rw [show A T (h + 1) c = addV (A T h (prv c)) (T c (bk c (h + 2))) from rfl, addV_at, sent_at r o h (by omega) (prv c), Finset.sum_range_succ' _ (h + 1), bk_zero]
    refine congrArg (· + _) (Finset.sum_congr rfl fun s hs => ?_)
    have hs' : s < h + 1 := Finset.mem_range.mp hs
    rw [bk_prv c s (by omega), bk_prv c (h + 1) (by omega)]

/-- Device `c`'s result at an entry. -/
theorem out_at (c : Dev nD) (b : Fin 2) (i : Fin 128) (o : Fin 512) :
    (outV T c (ix3 b i o) : EReal) = ∑ d : Fin 16, (T d c (ix2 ⟨128 * b.val + i.val, by omega⟩ o) : EReal) := by
  unfold outV
  rw [last_at, sent_at T _ o 14 (by decide) (prv c), ← (bkE c).sum_comp]
  show _ = ∑ k : Fin 16, (T (bk c k.val) c (ix2 ⟨128 * b.val + i.val, by omega⟩ o) : EReal)
  rw [Fin.sum_univ_eq_sum_range (fun s => (T (bk c s) c (ix2 ⟨128 * b.val + i.val, by omega⟩ o) : EReal)) 16,
    Finset.sum_range_succ' _ 15, bk_zero]
  refine congrArg (· + _) (Finset.sum_congr rfl fun s hs => ?_)
  have hs' : s < 15 := Finset.mem_range.mp hs
  rw [bk_prv c s (by omega), bk_prv c 15 (by omega), bk_sixteen]

end Cert.RingAttn

end
-- ==== Proof.HeadVal.lean ====
/-
One head's attention at an entry: what the kernel computes for one row of queries, one head's keys and one column of
its values, over the extended reals.
-/
module

public import proofs.«01_k».proof.Proof.Loop
public import Idealize.ShloMosaic.Lib.Pointwise

@[expose] public section

noncomputable section

namespace Cert.RingAttn

open Cert.KernelIdeal Cert.KernelIdeal.Gen
open Idealize.ShloMosaic

/-- The score of a query row against key `j`, over 8. -/
def score (q : Fin 64 → EReal) (k : Fin 128 → Fin 64 → EReal) (j : Fin 128) : EReal :=
  (∑ d : Fin 64, q d * k j d) * Ideal.ofBits .f32 0x3E000000#32

/-- The largest score. -/
def top (q : Fin 64 → EReal) (k : Fin 128 → Fin 64 → EReal) : EReal :=
  Finset.univ.fold max (Ideal.ofBits .f32 0xFF800000#32) fun j => score q k j

/-- The weight of key `j`. -/
def weight (q : Fin 64 → EReal) (k : Fin 128 → Fin 64 → EReal) (j : Fin 128) : EReal :=
  Ideal.exp (score q k j - top q k)

/-- The weighted values over the weights' sum. -/
def attn (q : Fin 64 → EReal) (k : Fin 128 → Fin 64 → EReal) (v : Fin 128 → EReal) : EReal :=
  Ideal.div (∑ j : Fin 128, weight q k j * v j) (∑ j : Fin 128, weight q k j)

/-- The kernel's head at a row and a column. -/
theorem head_at (q kk vv : FVec Ideal S128x64 .f32) (i : Fin 128) (d : Fin 64) :
    head q kk vv (ix2 i d) = attn (fun e => q (ix2 i e)) (fun j e => kk (ix2 j e)) (fun j => vv (ix2 j d)) := by
  pointwise [head]
  rfl

theorem dropUnits_at (x : FVec Ideal S1x128x1x64 .f32) (j : Fin 128) (e : Fin 64) :
    (shapeCast S128x64 x shapeCasts_S1x128x1x64_S128x64 : FVec Ideal S128x64 .f32) (ix2 j e) = x (ix4 0 j 0 e) := by
  pointwise

/-- One head's keys of a block, at a row and a column. -/
theorem kv_at (kb : Vec Ideal S2x128x8x64 .f32) (b : Fin 2) (h : Fin 8) (j : Fin 128) (e : Fin 64) :
    (shapeCast S128x64 (kM.view.readAt (Elt Ideal) (Rect.unit (s := S2x128x8x64) ![b.val, 0, h.val, 0] S1x128x1x64.size (kv_inb b h)).toLoadRect kb)
      shapeCasts_S1x128x1x64_S128x64 : FVec Ideal S128x64 .f32) (ix2 j e) = kb (ix4 b j h e) := by
  refine (dropUnits_at _ j e).trans (congrArg kb (funext fun a => Fin.ext ?_))
  fin_cases a
  · show b.val + 1 * 0 = b.val; omega
  · show 0 + 1 * j.val = j.val; omega
  · show h.val + 1 * 0 = h.val; omega
  · show 0 + 1 * e.val = e.val; omega

theorem cut_at (q : FVec Ideal S256x512 .f32) (b : Fin 2) (h : Fin 8) (i : Fin 128) (e : Fin 64) :
    (extractStridedSlice S128x64 ![128 * b.val, 64 * h.val] q (tile_slices b h) : FVec Ideal S128x64 .f32) (ix2 i e)
      = q (ix2 ⟨128 * b.val + i.val, by omega⟩ ⟨64 * h.val + e.val, by omega⟩) := by
  refine congrArg q (funext fun a => Fin.ext ?_)
  fin_cases a <;> rfl

/-- The tile at a row and a column. -/
theorem tile_at (q : FVec Ideal S256x512 .f32) (kb vb : Vec Ideal S2x128x8x64 .f32) (b : Fin 2) (h : Fin 8) (i : Fin 128) (d : Fin 64) :
    tile q kb vb b h (ix2 i d)
      = attn (fun e => q (ix2 ⟨128 * b.val + i.val, by omega⟩ ⟨64 * h.val + e.val, by omega⟩)) (fun j e => kb (ix4 b j h e)) (fun j => vb (ix4 b j h d)) := by
  unfold tile
  rw [head_at]
  congr 1
  · funext e; exact cut_at q b h i e
  · funext j e; exact kv_at kb b h j e
  · funext j; exact kv_at vb b h j d

/-- The projected queries at an entry. -/
theorem query_at (x : Vec Ideal S256x512 .f32) (w : Vec Ideal S512x512 .f32) (r : Fin 256) (e : Fin 512) :
    (k0_pay2 x w : FVec Ideal S256x512 .f32) (ix2 r e) = ∑ a : Fin 512, x (ix2 r a) * w (ix2 a e) := by
  pointwise [k0_pay2]

/-- The output projection at an entry. -/
theorem proj_at (o : Vec Ideal S256x512 .f32) (w : Vec Ideal S512x512 .f32) (r : Fin 256) (e : Fin 512) :
    (k0_pay40 o w : FVec Ideal S256x512 .f32) (ix2 r e) = ∑ a : Fin 512, o (ix2 r a) * w (ix2 a e) := by
  pointwise [k0_pay40]

end Cert.RingAttn

end
-- ==== Proof.RefVal.lean ====
/-
The reference at an entry, over the extended reals: the projected queries, each head's attention, the output projection
over all 8192 columns.
-/
module

public import proofs.«01_k».proof.Proof.HeadVal
public import proofs.«01_k».proof.Proof.Gen.ReferenceIdeal.Run

@[expose] public section

noncomputable section

namespace Cert.RingAttn

open Cert.ReferenceIdeal Cert.ReferenceIdeal.Gen
open Idealize.ShloMosaic

/-- The whole problem's attention at a batch row, a query, a head and a column of it. -/
def attnAt (x : FVec Ideal S32x128x512 .f32) (wq : FVec Ideal S512x8192 .f32) (K V : FVec Ideal S32x128x128x64 .f32)
    (b : Fin 32) (i : Fin 128) (h : Fin 128) (d : Fin 64) : EReal :=
  attn (fun e => ∑ a : Fin 512, (x (ix3 b i a) : EReal) * (wq (ix2 a ⟨64 * h.val + e.val, by omega⟩) : EReal)) (fun j e => K (ix4 b j h e)) (fun j => V (ix4 b j h d))

/-- The reference's attention as its operations compose it. -/
def refScores (x : FVec Ideal S32x128x512 .f32) (wq : FVec Ideal S512x8192 .f32) (K : FVec Ideal S32x128x128x64 .f32) : FVec Ideal S32x128x128x128 .f32 :=
  mulf (Host.dotGeneral dot_S32x128x128x64_S32x128x128x64_S32x128x128x128_3_3_1_1_02_02 none
      (shapeCast S32x128x128x64 (Host.dotGeneral dot_S32x128x512_S512x8192_S32x128x8192_2_0_01_1_n_n none x wq) shapeCasts_S32x128x8192_S32x128x128x64) K)
    (broadcastInDim S32x128x128x128 ![] bcast_S_S32x128x128x128 (constant S_ .f32 0x3E000000#32))

theorem refScores_at (x : FVec Ideal S32x128x512 .f32) (wq : FVec Ideal S512x8192 .f32) (K : FVec Ideal S32x128x128x64 .f32)
    (b : Fin 32) (h i j : Fin 128) :
    refScores x wq K (ix4 b h i j) = score (fun e => ∑ a : Fin 512, (x (ix3 b i a) : EReal) * (wq (ix2 a ⟨64 * h.val + e.val, by omega⟩) : EReal)) (fun j e => K (ix4 b j h e)) j := by
  pointwise [refScores]
  simp only [Nat.mul_comm _ 64]
  rfl

/-- The scores' maxima along the keys. -/
def topRaw (S : FVec Ideal S32x128x128x128 .f32) : FVec Ideal S32x128x128 .f32 :=
  Host.reduce FloatOps.maximumf S (constant S_ .f32 0xFF800000#32) reducesTo_S32x128x128x128_S32x128x128_d3 h_S_

theorem topRaw_at (S : FVec Ideal S32x128x128x128 .f32) (b : Fin 32) (h i : Fin 128) :
    (topRaw S (ix3 b h i) : EReal) = Finset.univ.fold max (Ideal.ofBits .f32 0xFF800000#32) fun j : Fin 128 => (S (ix4 b h i j) : EReal) := by
  unfold topRaw
  simp only [pointwise]

theorem column_at (R : FVec Ideal S32x128x128 .f32) (b : Fin 32) (h i : Fin 128) (z : Fin 1) :
    (broadcastInDim S32x128x128x1 ![0, 1, 2] bcast_S32x128x128_S32x128x128x1_0_1_2 R : FVec Ideal S32x128x128x1 .f32) (ix4 b h i z) = R (ix3 b h i) := by
  pointwise

theorem start_at (R : FVec Ideal S32x128x128x1 .f32) (b : Fin 32) (h i : Fin 128) (z : Fin 1) :
    maximumf (broadcastInDim S32x128x128x1 ![] bcast_S_S32x128x128x1 (constant S_ .f32 0xFF800000#32)) R (ix4 b h i z)
      = max (Ideal.ofBits .f32 0xFF800000#32) (R (ix4 b h i z)) := by
  pointwise

theorem max_start (f : Fin 128 → EReal) (x : EReal) : max x (Finset.univ.fold max x f) = Finset.univ.fold max x f :=
  max_eq_right ((Finset.le_fold_max _).mpr (Or.inl le_rfl))

/-- The largest score of a query, from the scores and the start. -/
def refTop (S : FVec Ideal S32x128x128x128 .f32) : FVec Ideal S32x128x128x1 .f32 :=
  maximumf (broadcastInDim S32x128x128x1 ![] bcast_S_S32x128x128x1 (constant S_ .f32 0xFF800000#32))
    (broadcastInDim S32x128x128x1 ![0, 1, 2] bcast_S32x128x128_S32x128x128x1_0_1_2 (topRaw S))

theorem refTop_at (S : FVec Ideal S32x128x128x128 .f32) (b : Fin 32) (h i : Fin 128) (z : Fin 1) :
    (refTop S (ix4 b h i z) : EReal) = Finset.univ.fold max (Ideal.ofBits .f32 0xFF800000#32) fun j : Fin 128 => (S (ix4 b h i j) : EReal) := by
  unfold refTop
  rw [start_at, column_at, topRaw_at, max_start]

/-- The weights, from the scores and their largest. -/
def refWeight (S : FVec Ideal S32x128x128x128 .f32) (M : FVec Ideal S32x128x128x1 .f32) : FVec Ideal S32x128x128x128 .f32 :=
  Host.exp (subf S (broadcastInDim S32x128x128x128 ![0, 1, 2, 3] bcast_S32x128x128x1_S32x128x128x128_0_1_2_3 M))

theorem refWeight_at (S : FVec Ideal S32x128x128x128 .f32) (M : FVec Ideal S32x128x128x1 .f32) (b : Fin 32) (h i j : Fin 128) :
    (refWeight S M (ix4 b h i j) : EReal) = Ideal.exp ((S (ix4 b h i j) : EReal) - (M (ix4 b h i 0) : EReal)) := by
  pointwise [refWeight]

/-- The start's factor, the exponential of minus infinity less the largest score: it multiplies zeros only. -/
def refStart (M : FVec Ideal S32x128x128x1 .f32) : FVec Ideal S32x128x128x1 .f32 :=
  Host.exp (subf (broadcastInDim S32x128x128x1 ![] bcast_S_S32x128x128x1 (constant S_ .f32 0xFF800000#32)) M)

/-- The attention, from the weights, the start's factor and the values. -/
def refAttn (W : FVec Ideal S32x128x128x128 .f32) (E : FVec Ideal S32x128x128x1 .f32) (V : FVec Ideal S32x128x128x64 .f32) : FVec Ideal S32x128x128x64 .f32 :=
  Host.divf
    (addf (mulf (broadcastInDim S32x128x128x64 ![] bcast_S_S32x128x128x64 (constant S_ .f32 0x00000000#32))
        (broadcastInDim S32x128x128x64 ![0, 1, 2, 3] bcast_S32x128x128x1_S32x128x128x64_0_1_2_3 (transpose S32x128x128x1 [0, 2, 1, 3] E transposes_S32x128x128x1_S32x128x128x1_0_2_1_3)))
      (transpose S32x128x128x64 [0, 3, 1, 2] (Host.dotGeneral dot_S32x128x128x64_S32x128x128x128_S32x128x64x128_1_3_3_2_02_01 none V W) transposes_S32x128x64x128_S32x128x128x64_0_3_1_2))
    (broadcastInDim S32x128x128x64 ![0, 1, 2, 3] bcast_S32x128x128x1_S32x128x128x64_0_1_2_3
      (transpose S32x128x128x1 [0, 2, 1, 3]
        (addf (mulf (broadcastInDim S32x128x128x1 ![] bcast_S_S32x128x128x1 (constant S_ .f32 0x00000000#32)) E)
          (broadcastInDim S32x128x128x1 ![0, 1, 2] bcast_S32x128x128_S32x128x128x1_0_1_2
            (Host.reduceAdd W (constant S_ .f32 0x00000000#32) reducesTo_S32x128x128x128_S32x128x128_d3 h_S_)))
        transposes_S32x128x128x1_S32x128x128x1_0_2_1_3))

theorem refAttn_at (W : FVec Ideal S32x128x128x128 .f32) (E : FVec Ideal S32x128x128x1 .f32) (V : FVec Ideal S32x128x128x64 .f32)
    (b : Fin 32) (i h : Fin 128) (d : Fin 64) :
    (refAttn W E V (ix4 b i h d) : EReal)
      = Ideal.div (∑ j : Fin 128, (W (ix4 b h i j) : EReal) * (V (ix4 b j h d) : EReal)) (∑ j : Fin 128, (W (ix4 b h i j) : EReal)) := by
  pointwise [refAttn]
  rw [zero_mul, zero_add, zero_add]
  exact congrArg (Ideal.div · _) (Finset.sum_congr rfl fun j _ => mul_comm _ _)

/-- The reference's attention at an entry. -/
theorem refAll_at (x : FVec Ideal S32x128x512 .f32) (wq : FVec Ideal S512x8192 .f32) (K V : FVec Ideal S32x128x128x64 .f32)
    (b : Fin 32) (i h : Fin 128) (d : Fin 64) :
    (refAttn (refWeight (refScores x wq K) (refTop (refScores x wq K))) (refStart (refTop (refScores x wq K))) V (ix4 b i h d) : EReal)
      = attnAt x wq K V b i h d := by
  rw [refAttn_at]
  simp only [refWeight_at, refTop_at, refScores_at]
  rfl

/-- The output projection at an entry. -/
def refProj (Y : FVec Ideal S32x128x128x64 .f32) (wo : FVec Ideal S8192x512 .f32) : FVec Ideal S32x128x512 .f32 :=
  Host.dotGeneral dot_S32x128x8192_S8192x512_S32x128x512_2_0_01_1_n_n none (shapeCast S32x128x8192 Y shapeCasts_S32x128x128x64_S32x128x8192) wo

theorem refProj_at (Y : FVec Ideal S32x128x128x64 .f32) (wo : FVec Ideal S8192x512 .f32) (b : Fin 32) (i : Fin 128) (o : Fin 512) :
    (refProj Y wo (ix3 b i o) : EReal) = ∑ n : Fin 8192, (Y (ix4 b i ⟨n.val / 64, by omega⟩ ⟨n.val % 64, by omega⟩) : EReal) * (wo (ix2 n o) : EReal) := by
  pointwise [refProj]

/-- The reference's result is these stages in turn. -/
theorem ref_eq (m : (ℓ : Loc nD τ sig) → Buf (Elt Ideal) ℓ) (c : Dev nD) :
    Cert.ReferenceIdeal.Value.res_main_v30 (F := Ideal) m c
      = refProj (refAttn (refWeight (refScores (m (c.tc.loc main_arg0)) (m (c.tc.loc main_arg1)) (m (c.tc.loc main_arg3)))
            (refTop (refScores (m (c.tc.loc main_arg0)) (m (c.tc.loc main_arg1)) (m (c.tc.loc main_arg3)))))
          (refStart (refTop (refScores (m (c.tc.loc main_arg0)) (m (c.tc.loc main_arg1)) (m (c.tc.loc main_arg3))))) (m (c.tc.loc main_arg4)))
        (m (c.tc.loc main_arg2)) := rfl

/-- The reference's result at an entry. -/
theorem ref_at (m : (ℓ : Loc nD τ sig) → Buf (Elt Ideal) ℓ) (c : Dev nD) (b : Fin 32) (i : Fin 128) (o : Fin 512) :
    (Cert.ReferenceIdeal.Value.res_main_v30 (F := Ideal) m c (ix3 b i o) : EReal)
      = ∑ n : Fin 8192, attnAt (m (c.tc.loc main_arg0)) (m (c.tc.loc main_arg1)) (m (c.tc.loc main_arg3)) (m (c.tc.loc main_arg4)) b i ⟨n.val / 64, by omega⟩ ⟨n.val % 64, by omega⟩
          * (m (c.tc.loc main_arg2) (ix2 n o) : EReal) := by
  rw [ref_eq, refProj_at]
  simp only [refAll_at]

end Cert.RingAttn

end
-- ==== Proof.KerVal.lean ====
/-
The kernel's result at an entry is the reference's: a device's share is the reference's sum over its own 512 of the 8192
columns, and the sixteen shares make the whole sum.
-/
module

public import proofs.«01_k».proof.Proof.Frames
public import proofs.«01_k».proof.Proof.SumVal
public import proofs.«01_k».proof.Proof.RefVal

@[expose] public section

noncomputable section

namespace Cert.RingAttn

open Cert.KernelIdeal Cert.KernelIdeal.Gen
open Idealize.ShloMosaic
open Idealize.ShloMosaic.TcCoe
open Idealize.SL.Sem
open Idealize.ShloMosaic.Pipeline (Dat Cfg Window)

variable (m : (ℓ : Loc nD τ sig) → Buf (Elt Ideal) ℓ) (ρ : Dev nD → PrngReg)

/-! ## Each window is its whole array -/

theorem inX_eq (c : Dev nD) : inX m c = m ((c : Thread nD τ).loc main_arg0) := by
  funext i
  refine congrArg (m ((c : Thread nD τ).loc main_arg0)) (funext fun a => Fin.ext ?_)
  fin_cases a
  · show 0 * 2 + 1 * (i 0).val = (i 0).val; omega
  · show 0 * 128 + 1 * (i 1).val = (i 1).val; omega
  · show 0 * 512 + 1 * (i 2).val = (i 2).val; omega
theorem inQ_eq (c : Dev nD) : inQ m c = m ((c : Thread nD τ).loc main_arg1) := by
  funext i
  refine congrArg (m ((c : Thread nD τ).loc main_arg1)) (funext fun a => Fin.ext ?_)
  fin_cases a
  · show 0 * 512 + 1 * (i 0).val = (i 0).val; omega
  · show 0 * 512 + 1 * (i 1).val = (i 1).val; omega
theorem inO_eq (c : Dev nD) : inO m c = m ((c : Thread nD τ).loc main_arg2) := by
  funext i
  refine congrArg (m ((c : Thread nD τ).loc main_arg2)) (funext fun a => Fin.ext ?_)
  fin_cases a
  · show 0 * 512 + 1 * (i 0).val = (i 0).val; omega
  · show 0 * 512 + 1 * (i 1).val = (i 1).val; omega

theorem out_whole (G : Vec Ideal S2x128x512 .f32) : ((cfg0.win 3).blk t0_0).view.read (Elt Ideal) G = G := by
  funext i
  refine congrArg G (funext fun a => Fin.ext ?_)
  fin_cases a
  · show 0 * 2 + 1 * (i 0).val = (i 0).val; omega
  · show 0 * 128 + 1 * (i 1).val = (i 1).val; omega
  · show 0 * 512 + 1 * (i 2).val = (i 2).val; omega

theorem out_emb (i : S2x128x512.Idx) : ((cfg0.win 3).blk t0_0).view.emb i = i := by
  refine funext fun a => Fin.ext ?_
  fin_cases a
  · show 0 * 2 + 1 * (i 0).val = (i 0).val; omega
  · show 0 * 128 + 1 * (i 1).val = (i 1).val; omega
  · show 0 * 512 + 1 * (i 2).val = (i 2).val; omega

theorem fin_N_eq : ∀ t : Fin cfg0.N, t = t0_0 := by decide

/-- The result array ends holding the device's sums. -/
theorem out_final (c : Dev nD) : (dats (F := Ideal) m ρ 0 c).arrAt (3 : Fin 4) cfg0.N = outV (prods m) c := by
  refine Dat.arrAt_eq_of_cover (dats (F := Ideal) m ρ 0 c) (3 : Fin 4) (outV (prods m) c) ?_ ?_
  · intro t ht
    obtain rfl : t = t0_0 := fin_N_eq t
    rw [out_whole]
    rfl
  · intro i
    refine ⟨t0_0, by decide, ?_⟩
    rw [← out_emb i]
    exact ((cfg0.win 3).blk t0_0).view.emb_mem_set i

/-! ## A device's share -/

theorem rows_at (x : Vec Ideal S2x128x512 .f32) (b : Fin 2) (i : Fin 128) (a : Fin 512) :
    ((k0_pay38 x : FVec Ideal S256x512 .f32) (ix2 ⟨128 * b.val + i.val, by omega⟩ a) : EReal) = x (ix3 b i a) := by
  pointwise [k0_pay38]

/-- Device `d`'s share of block `c`, at an entry: its own 512 columns' part of the whole projection. -/
theorem share_at (x : FVec Ideal Cert.ReferenceIdeal.S32x128x512 .f32) (wq : FVec Ideal Cert.ReferenceIdeal.S512x8192 .f32) (wo : FVec Ideal Cert.ReferenceIdeal.S8192x512 .f32) (K V : FVec Ideal S32x128x128x64 .f32)
    (Wq Wo : Vec Ideal S512x512 .f32) (X : Dev nD → Vec Ideal S256x512 .f32) (d c : Dev nD) (d' c' : Fin 16) (hd : d' = d) (hc : c' = c)
    (hq : ∀ a e : Fin 512, Wq (ix2 a e) = wq (ix2 a ⟨512 * d'.val + e.val, by omega⟩))
    (ho : ∀ e o : Fin 512, Wo (ix2 e o) = wo (ix2 ⟨512 * d'.val + e.val, by omega⟩ o))
    (hx : ∀ (b : Fin 2) (i : Fin 128) (a : Fin 512), X c (ix2 ⟨128 * b.val + i.val, by omega⟩ a) = x (ix3 ⟨2 * c'.val + b.val, by omega⟩ i a))
    (b : Fin 2) (i : Fin 128) (o : Fin 512) :
    (part Wq Wo K V X d c (ix2 ⟨128 * b.val + i.val, by omega⟩ o) : EReal)
      = ∑ e : Fin 512, attnAt x wq K V ⟨2 * c'.val + b.val, by omega⟩ i ⟨(512 * d'.val + e.val) / 64, by omega⟩ ⟨(512 * d'.val + e.val) % 64, by omega⟩
          * (wo (ix2 ⟨512 * d'.val + e.val, by omega⟩ o) : EReal) := by
  subst hd hc
  unfold part
  rw [proj_at]
  refine Finset.sum_congr rfl fun e _ => ?_
  rw [ho]
  refine congrArg (· * _) ?_
  rw [heads_apply _ _ _ b ⟨e.val / 64, by omega⟩ (ix2 i ⟨e.val % 64, by omega⟩) _ rfl (by show e.val = 64 * (e.val / 64) + e.val % 64; omega), tile_at]
  unfold attnAt
  congr 1
  · funext f
    rw [query_at]
    refine Finset.sum_congr rfl fun a _ => ?_
    rw [hx, hq]
    refine congrArg (fun n => _ * wq (ix2 a n)) (Fin.ext ?_)
    show 512 * d'.val + (64 * (e.val / 64) + f.val) = 64 * ((512 * d'.val + e.val) / 64) + f.val
    omega
  · funext j f
    refine congrArg K (funext fun a => Fin.ext ?_)
    fin_cases a
    · rfl
    · rfl
    · show 8 * d'.val + e.val / 64 = (512 * d'.val + e.val) / 64; omega
    · rfl
  · funext j
    refine congrArg V (funext fun a => Fin.ext ?_)
    fin_cases a
    · rfl
    · rfl
    · show 8 * d'.val + e.val / 64 = (512 * d'.val + e.val) / 64; omega
    · show e.val % 64 = (512 * d'.val + e.val) % 64; omega

/-! ## The sixteen shares -/

/-- What a device's arguments are of the whole arrays. -/
structure Agree (x : FVec Ideal Cert.ReferenceIdeal.S32x128x512 .f32) (wq : FVec Ideal Cert.ReferenceIdeal.S512x8192 .f32) (wo : FVec Ideal Cert.ReferenceIdeal.S8192x512 .f32)
    (K V : FVec Ideal S32x128x128x64 .f32) : Prop where
  rows : ∀ (c : Fin 16) (b : Fin 2) (i : Fin 128) (a : Fin 512), m ((Dev.tc (c : Dev nD) : Thread nD τ).loc main_arg0) (ix3 b i a) = x (ix3 ⟨2 * c.val + b.val, by omega⟩ i a)
  query : ∀ (c : Fin 16) (a e : Fin 512), m ((Dev.tc (c : Dev nD) : Thread nD τ).loc main_arg1) (ix2 a e) = wq (ix2 a ⟨512 * c.val + e.val, by omega⟩)
  proj : ∀ (c : Fin 16) (e o : Fin 512), m ((Dev.tc (c : Dev nD) : Thread nD τ).loc main_arg2) (ix2 e o) = wo (ix2 ⟨512 * c.val + e.val, by omega⟩ o)
  keys : ∀ c : Dev nD, m ((c : Thread nD τ).loc main_arg3) = K
  vals : ∀ c : Dev nD, m ((c : Thread nD τ).loc main_arg4) = V

/-- The kernel's result on device `c`, at an entry, is the reference's sum at the entry of its block. -/
theorem result_at {x : FVec Ideal Cert.ReferenceIdeal.S32x128x512 .f32} {wq : FVec Ideal Cert.ReferenceIdeal.S512x8192 .f32} {wo : FVec Ideal Cert.ReferenceIdeal.S8192x512 .f32}
    {K V : FVec Ideal S32x128x128x64 .f32} (H : Agree m x wq wo K V) (c : Fin 16) (b : Fin 2) (i : Fin 128) (o : Fin 512) :
    (outV (prods m) (c : Dev nD) (ix3 b i o) : EReal)
      = ∑ n : Fin 8192, attnAt x wq K V ⟨2 * c.val + b.val, by omega⟩ i ⟨n.val / 64, by omega⟩ ⟨n.val % 64, by omega⟩ * (wo (ix2 n o) : EReal) := by
  rw [out_at]
  refine Eq.trans ?_ (Fin.sum_univ_tiles (N := 8192) 16 512 (by norm_num) _).symm
  refine Finset.sum_congr rfl fun d _ => ?_
  have hp : prods m (d : Dev nD) = part (m ((Dev.tc (d : Dev nD) : Thread nD τ).loc main_arg1)) (m ((Dev.tc (d : Dev nD) : Thread nD τ).loc main_arg2)) K V (rowsOf m) d := by
    unfold prods
    rw [inQ_eq, inO_eq, show inK m d = K from H.keys d, show inV m d = V from H.vals d]
  rw [hp, share_at x wq wo K V _ _ (rowsOf m) (d : Dev nD) (c : Dev nD) d c rfl rfl (H.query d) (H.proj d)
    (fun b i a => by unfold rowsOf; rw [rows_at, inX_eq]; exact H.rows c b i a)]
  simp only [Nat.mul_comm 512]

end Cert.RingAttn

end
-- ==== Proof.Equation.lean ====
/-
The value claim's equation: device `c`'s result is block `c` of the reference's result, when its arguments are its blocks
of the whole arguments.
-/
module

public import proofs.«01_k».proof.Proof.KerVal
public import proofs.«01_k».proof.Defs
public import Idealize.ShloMosaic.Lib.Layout

@[expose] public section

noncomputable section

namespace Cert.RingAttn

open Idealize.ShloMosaic
open Idealize.SL.Sem

/-- The algebraic claim. -/
theorem algebraic : Cert.algebraic_KernelIdeal_ReferenceIdeal := by
  intro m ρ m' ρ' _ hagree
  have H : Agree m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    refine ⟨fun c b i a => ?_, fun c a e => ?_, fun c e o => ?_, fun c => (hagree c).2.2.2.1, fun c => (hagree c).2.2.2.2⟩
    · refine (congrFun (hagree c).1 (ix3 b i a)).trans (congrArg (m' _) (funext fun k => Fin.ext ?_))
      fin_cases k
      · show c.val * 2 + b.val = 2 * c.val + b.val; omega
      · rfl
      · rfl
    · refine (congrFun (hagree c).2.1 (ix2 a e)).trans (congrArg (m' _) (funext fun k => Fin.ext ?_))
      fin_cases k
      · rfl
      · show c.val * 512 + e.val = 512 * c.val + e.val; omega
    · refine (congrFun (hagree c).2.2.1 (ix2 e o)).trans (congrArg (m' _) (funext fun k => Fin.ext ?_))
      fin_cases k
      · show c.val * 512 + e.val = 512 * c.val + e.val; omega
      · rfl
  refine ⟨Cert.ReferenceIdeal.Value.res_main_v30 (F := Ideal) m' 0, ?_, ?_⟩
  · refine (θ_run Cert.KernelIdeal.defs _ _).mono (fun r h c => ⟨?_, (h.1 c).1⟩) (run_main (F := Ideal) m ρ)
    rw [(h.1 c).2, out_final]
    funext j
    obtain ⟨b, i, o, rfl⟩ : ∃ (b : Fin 2) (i : Fin 128) (o : Fin 512), j = ix3 b i o := ⟨j 0, j 1, j 2, eq_ix3 j⟩
    refine (result_at m H c b i o).trans (((ref_at m' 0 _ i o).symm).trans (congrArg (Cert.ReferenceIdeal.Value.res_main_v30 (F := Ideal) m' 0) (funext fun k => Fin.ext ?_)))
    have hc : c.val < 16 := c.isLt
    fin_cases k
    · show 2 * c.val + b.val = c.val * 2 + b.val; omega
    · rfl
    · rfl
  · exact (θ_run Cert.ReferenceIdeal.defs _ _).mono (fun r h => h 0) (Cert.ReferenceIdeal.Value.run (F := Ideal) m' ρ')

end Cert.RingAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

/-- The kernel's frame at any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, Cert.RingAttn.ArgsKept m r.2 c) ∧ r.2.sem = fun _ => 0) :=
  (θ_run Cert.KernelIdeal.defs _ _).mono (fun _ h => ⟨fun c => (h.1 c).1, h.2⟩) (Cert.RingAttn.run_main (F := F) m ρ)

/-- The two programs' body tables, of one text, are equal at the machine's floats. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  obtain ⟨v, hv⟩ := l
  obtain rfl : v = 0 := by omega
  rfl

/-- So are their whole tables. -/
theorem tables_eq : Cert.Kernel.defs (F := Bits) = Cert.KernelIdeal.defs (F := Bits) :=
  congrArg (Pipeline.defs Cert.KernelIdeal.pcfgs) bodies_eq

/-- The kernel at the machine's floats: the two programs have one text. -/
theorem frame_kernel : Cert.quiescent_Kernel := fun m ρ _ => by
  rw [tables_eq]
  exact frame_any (F := Bits) m ρ

/-- The kernel at the extended reals. -/
theorem frame_kernelIdeal : Cert.quiescent_KernelIdeal := fun m ρ _ => frame_any (F := Ideal) m ρ

/-- The reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The whole claim. -/
theorem claim : Cert.Claim := ⟨Cert.Kernel.Gen.facts, Cert.KernelIdeal.Gen.facts, Cert.ReferenceIdeal.Gen.facts,
  frame_kernel, frame_kernelIdeal, frame_reference, trivial, Cert.RingAttn.algebraic⟩

end Cert.Proof

end
